-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_v55) = v4 c
          ∧ r.2.mem ((c.tc : Thread Cert.ReferenceIdeal.nD Cert.ReferenceIdeal.τ).loc Cert.ReferenceIdeal.main_v56) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S16384x512 : Shape := ⟨2, ![16384, 512]⟩
abbrev S16384x1024 : Shape := ⟨2, ![16384, 1024]⟩
abbrev S1024x2048 : Shape := ⟨2, ![1024, 2048]⟩
abbrev S512 : Shape := ⟨1, ![512]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩

class Facts : Prop where
  bitsLt_bf16_f32 : FTy.bits .bf16 < FTy.bits .f32
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn_part1 {F : FTy → Type} [FloatOps F] (main_arg4 : FVec F S16384x512 .bf16) (main_arg5 : FVec F S16384x512 .f32) (main_v16 : IVec S_ 1) (main_v17 : FVec F S16384x512 .f32) : IVec S_ 1 :=
  let main_v18 : FVec F S16384x512 .f32 := Host.absf main_v17
  let main_cst_4 : FVec F S_ .f32 := constant S_ .f32 0x7F800000#32
  let main_v19 : FVec F S16384x512 .f32 := broadcastInDim S16384x512 ![] bcast_S_S16384x512 main_cst_4
  let main_v20 : IVec S16384x512 1 := cmpf .olt main_v18 main_v19
  let main_c_5 : IVec S_ 1 := constantI S_ 1 1#1
  let main_v21 : IVec S_ 1 := (fun x v => Host.reduce IntOp.andi x v reducesTo_S16384x512_S_d0_1 h_S_) main_v20 main_c_5
  let main_v22 : IVec S_ 1 := andi main_v16 main_v21
  let main_v23 : FVec F S16384x512 .f32 := (extf .f32 · bitsLt_bf16_f32) main_arg4
  let main_v24 : FVec F S16384x512 .f32 := Host.absf main_v23
  let main_cst_6 : FVec F S_ .f32 := constant S_ .f32 0x7F800000#32
  let main_v25 : FVec F S16384x512 .f32 := broadcastInDim S16384x512 ![] bcast_S_S16384x512 main_cst_6
  let main_v26 : IVec S16384x512 1 := cmpf .olt main_v24 main_v25
  let main_c_7 : IVec S_ 1 := constantI S_ 1 1#1
  let main_v27 : IVec S_ 1 := (fun x v => Host.reduce IntOp.andi x v reducesTo_S16384x512_S_d0_1 h_S_) main_v26 main_c_7
  let main_v28 : IVec S_ 1 := andi main_v22 main_v27
  let main_v29 : FVec F S16384x512 .f32 := Host.absf main_arg5
  let main_cst_8 : FVec F S_ .f32 := constant S_ .f32 0x7F800000#32
  let main_v30 : FVec F S16384x512 .f32 := broadcastInDim S16384x512 ![] bcast_S_S16384x512 main_cst_8
  let main_v31 : IVec S16384x512 1 := cmpf .olt main_v29 main_v30
  let main_c_9 : IVec S_ 1 := constantI S_ 1 1#1
  let main_v32 : IVec S_ 1 := (fun x v => Host.reduce IntOp.andi x v reducesTo_S16384x512_S_d0_1 h_S_) main_v31 main_c_9
  let main_v33 : IVec S_ 1 := andi main_v28 main_v32
  main_v33

def fn {F : FTy → Type} [FloatOps F] (main_arg0 : FVec F S16384x512 .bf16) (main_arg1 : FVec F S16384x512 .bf16) (main_arg2 : FVec F S16384x512 .bf16) (main_arg3 : FVec F S16384x512 .bf16) (main_arg4 : FVec F S16384x512 .bf16) (main_arg5 : FVec F S16384x512 .f32) (main_arg6 : FVec F S16384x512 .f32) (main_arg7 : FVec F S16384x512 .f32) (main_arg8 : FVec F S16384x1024 .bf16) (main_arg9 : FVec F S1024x2048 .bf16) (main_arg10 : FVec F S512 .f32) (main_arg11 : FVec F S512 .f32) (main_arg12 : FVec F S1024x1024 .f32) (main_arg13 : FVec F S1024x1024 .f32) (main_arg14 : FVec F S1024x4096 .f32) (main_arg15 : FVec F S4096x1024 .f32) : IVec S_ 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_c : IVec S_ 1 := constantI S_ 1 1#1
  let main_v4 : IVec S_ 1 := (fun x v => Host.reduce IntOp.andi x v reducesTo_S16384x512_S_d0_1 h_S_) main_v3 main_c
  let main_v5 : FVec F S16384x512 .f32 := (extf .f32 · bitsLt_bf16_f32) main_arg1
  let main_v6 : FVec F S16384x512 .f32 := Host.absf main_v5
  let main_cst_0 : FVec F S_ .f32 := constant S_ .f32 0x7F800000#32
  let main_v7 : FVec F S16384x512 .f32 := broadcastInDim S16384x512 ![] bcast_S_S16384x512 main_cst_0
  let main_v8 : IVec S16384x512 1 := cmpf .olt main_v6 main_v7
  let main_c_1 : IVec S_ 1 := constantI S_ 1 1#1
  let main_v9 : IVec S_ 1 := (fun x v => Host.reduce IntOp.andi x v reducesTo_S16384x512_S_d0_1 h_S_) main_v8 main_c_1
  let main_v10 : IVec S_ 1 := andi main_v4 main_v9
  let main_v11 : FVec F S16384x512 .f32 := (extf .f32 · bitsLt_bf16_f32) main_arg2
  let main_v12 : FVec F S16384x512 .f32 := Host.absf main_v11
  let main_cst_2 : FVec F S_ .f32 := constant S_ .f32 0x7F800000#32
  let main_v13 : FVec F S16384x512 .f32 := broadcastInDim S16384x512 ![] bcast_S_S16384x512 main_cst_2
  let main_v14 : IVec S16384x512 1 := cmpf .olt main_v12 main_v13
  let main_c_3 : IVec S_ 1 := constantI S_ 1 1#1
  let main_v15 : IVec S_ 1 := (fun x v => Host.reduce IntOp.andi x v reducesTo_S16384x512_S_d0_1 h_S_) main_v14 main_c_3
  let main_v16 : IVec S_ 1 := andi main_v10 main_v15
  let main_v17 : FVec F S16384x512 .f32 := (extf .f32 · bitsLt_bf16_f32) main_arg3
  fn_part1 (F := F) main_arg4 main_arg5 main_v16 main_v17
-- ==== Kernel.lean ====
abbrev S16384x512 : Shape := ⟨2, ![16384, 512]⟩
abbrev S16384x1024 : Shape := ⟨2, ![16384, 1024]⟩
abbrev S1024x2048 : Shape := ⟨2, ![1024, 2048]⟩
abbrev S512 : Shape := ⟨1, ![512]⟩
abbrev S1024x1024 : Shape := ⟨2, ![1024, 1024]⟩
abbrev S1024x4096 : Shape := ⟨2, ![1024, 4096]⟩
abbrev S4096x1024 : Shape := ⟨2, ![4096, 1024]⟩
abbrev S128x128 : Shape := ⟨2, ![128, 128]⟩
abbrev S64x64 : Shape := ⟨2, ![64, 64]⟩
abbrev S1x512 : Shape := ⟨2, ![1, 512]⟩
abbrev S16384x2048 : Shape := ⟨2, ![16384, 2048]⟩
abbrev S256x512 : Shape := ⟨2, ![256, 512]⟩
abbrev S256x1024 : Shape := ⟨2, ![256, 1024]⟩
abbrev S16x1024 : Shape := ⟨2, ![16, 1024]⟩
abbrev S16x4096 : Shape := ⟨2, ![16, 4096]⟩
abbrev S64x1024 : Shape := ⟨2, ![64, 1024]⟩
abbrev S256x2048 : Shape := ⟨2, ![256, 2048]⟩
abbrev S4x64x128 : Shape := ⟨3, ![4, 64, 128]⟩
abbrev S4x1x512 : Shape := ⟨3, ![4, 1, 512]⟩
abbrev S64x128 : Shape := ⟨2, ![64, 128]⟩
abbrev S1x1x128 : Shape := ⟨3, ![1, 1, 128]⟩
abbrev S1x128 : Shape := ⟨2, ![1, 128]⟩
abbrev S256x128 : Shape := ⟨2, ![256, 128]⟩
abbrev S128x256 : Shape := ⟨2, ![128, 256]⟩
abbrev S64x256 : Shape := ⟨2, ![64, 256]⟩
abbrev S64x512 : Shape := ⟨2, ![64, 512]⟩
abbrev S1x1x512 : Shape := ⟨3, ![1, 1, 512]⟩
abbrev S1024x256 : Shape := ⟨2, ![1024, 256]⟩
abbrev S256x256 : Shape := ⟨2, ![256, 256]⟩
abbrev S1x64x128 : Shape := ⟨3, ![1, 64, 128]⟩

abbrev nBuf : Space → Nat
  | .hbm => 26
  | .vmem => 52
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S16384x1024, .bf16⟩
  | .hbm, ⟨9, _⟩ => ⟨S1024x2048, .bf16⟩
  | .hbm, ⟨10, _⟩ => ⟨S512, .f32⟩
  | .hbm, ⟨11, _⟩ => ⟨S512, .f32⟩
  | .hbm, ⟨12, _⟩ => ⟨S1024x1024, .f32⟩
  | .hbm, ⟨13, _⟩ => ⟨S1024x1024, .f32⟩
  | .hbm, ⟨14, _⟩ => ⟨S1024x4096, .f32⟩
  | .hbm, ⟨15, _⟩ => ⟨S4096x1024, .f32⟩
  | .hbm, ⟨16, _⟩ => ⟨S128x128, .bf16⟩
  | .hbm, ⟨17, _⟩ => ⟨S64x64, .bf16⟩
  | .hbm, ⟨18, _⟩ => ⟨S1x512, .f32⟩
  | .hbm, ⟨19, _⟩ => ⟨S1x512, .f32⟩
  | .hbm, ⟨20, _⟩ => ⟨S16384x512, .f32⟩
  | .hbm, ⟨21, _⟩ => ⟨S16384x2048, .bf16⟩
  | .hbm, ⟨22, _⟩ => ⟨S1024x1024, .bf16⟩
  | .hbm, ⟨23, _⟩ => ⟨S1024x1024, .bf16⟩
  | .hbm, ⟨24, _⟩ => ⟨S1024x4096, .bf16⟩
  | .hbm, ⟨25, _⟩ => ⟨S4096x1024, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x1024, .bf16⟩
  | .local _ .vmem, ⟨17, _⟩ => ⟨S256x1024, .bf16⟩
  | .local _ .vmem, ⟨18, _⟩ => ⟨S1024x2048, .bf16⟩
  | .local _ .vmem, ⟨19, _⟩ => ⟨S1x512, .f32⟩
  | .local _ .vmem, ⟨20, _⟩ => ⟨S1x512, .f32⟩
  | .local _ .vmem, ⟨21, _⟩ => ⟨S128x128, .bf16⟩
  | .local _ .vmem, ⟨22, _⟩ => ⟨S64x64, .bf16⟩
  | .local _ .vmem, ⟨23, _⟩ => ⟨S16x1024, .f32⟩
  | .local _ .vmem, ⟨24, _⟩ => ⟨S16x1024, .f32⟩
  | .local _ .vmem, ⟨25, _⟩ => ⟨S16x1024, .f32⟩
  | .local _ .vmem, ⟨26, _⟩ => ⟨S16x1024, .f32⟩
  | .local _ .vmem, ⟨27, _⟩ => ⟨S16x4096, .f32⟩
  | .local _ .vmem, ⟨28, _⟩ => ⟨S16x4096, .f32⟩
  | .local _ .vmem, ⟨29, _⟩ => ⟨S64x1024, .f32⟩
  | .local _ .vmem, ⟨30, _⟩ => ⟨S64x1024, .f32⟩
  | .local _ .vmem, ⟨31, _⟩ => ⟨S256x512, .f32⟩
  | .local _ .vmem, ⟨32, _⟩ => ⟨S256x512, .f32⟩
  | .local _ .vmem, ⟨33, _⟩ => ⟨S256x2048, .bf16⟩
  | .local _ .vmem, ⟨34, _⟩ => ⟨S256x2048, .bf16⟩
  | .local _ .vmem, ⟨35, _⟩ => ⟨S16x1024, .bf16⟩
  | .local _ .vmem, ⟨36, _⟩ => ⟨S16x1024, .bf16⟩
  | .local _ .vmem, ⟨37, _⟩ => ⟨S16x1024, .bf16⟩
  | .local _ .vmem, ⟨38, _⟩ => ⟨S16x1024, .bf16⟩
  | .local _ .vmem, ⟨39, _⟩ => ⟨S16x4096, .bf16⟩
  | .local _ .vmem, ⟨40, _⟩ => ⟨S16x4096, .bf16⟩
  | .local _ .vmem, ⟨41, _⟩ => ⟨S64x1024, .bf16⟩
  | .local _ .vmem, ⟨42, _⟩ => ⟨S64x1024, .bf16⟩
  | .local _ .vmem, ⟨43, _⟩ => ⟨S4x64x128, .f32⟩
  | .local _ .vmem, ⟨44, _⟩ => ⟨S4x1x512, .f32⟩
  | .local _ .vmem, ⟨45, _⟩ => ⟨S256x512, .f32⟩
  | .local _ .vmem, ⟨46, _⟩ => ⟨S256x512, .f32⟩
  | .local _ .vmem, ⟨47, _⟩ => ⟨S256x512, .f32⟩
  | .local _ .vmem, ⟨48, _⟩ => ⟨S256x512, .f32⟩
  | .local _ .vmem, ⟨49, _⟩ => ⟨S256x512, .f32⟩
  | .local _ .vmem, ⟨50, _⟩ => ⟨S256x512, .f32⟩
  | .local _ .vmem, ⟨51, _⟩ => ⟨S256x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_v0 : Ref sig .tc := ⟨.hbm, 18, rfl⟩
abbrev main_v1 : Ref sig .tc := ⟨.hbm, 19, rfl⟩
abbrev main_v2_0 : Ref sig .tc := ⟨.hbm, 20, rfl⟩
abbrev main_v2_1 : Ref sig .tc := ⟨.hbm, 21, rfl⟩
abbrev main_v2_2 : Ref sig .tc := ⟨.hbm, 22, rfl⟩
abbrev main_v2_3 : Ref sig .tc := ⟨.hbm, 23, rfl⟩
abbrev main_v2_4 : Ref sig .tc := ⟨.hbm, 24, rfl⟩
abbrev main_v2_5 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_scratch0 : Ref sig .tc := ⟨.vmem, 43, rfl⟩
abbrev cc0_scratch1 : Ref sig .tc := ⟨.vmem, 44, rfl⟩
abbrev cc0_scratch2 : Ref sig .tc := ⟨.vmem, 45, rfl⟩
abbrev cc0_scratch3 : Ref sig .tc := ⟨.vmem, 46, rfl⟩
abbrev cc0_scratch4 : Ref sig .tc := ⟨.vmem, 47, rfl⟩
abbrev cc0_scratch5 : Ref sig .tc := ⟨.vmem, 48, rfl⟩
abbrev cc0_scratch6 : Ref sig .tc := ⟨.vmem, 49, rfl⟩
abbrev cc0_scratch7 : Ref sig .tc := ⟨.vmem, 50, rfl⟩
abbrev cc0_scratch8 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_19 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_20 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x64 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S16x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x4096 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2048 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S16x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S16x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S16x4096 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== ReferenceIdeal.lean ====
abbrev S16384x512 : Shape := ⟨2, ![16384, 512]⟩
abbrev S16384x1024 : Shape := ⟨2, ![16384, 1024]⟩
abbrev S1024x2048 : Shape := ⟨2, ![1024, 2048]⟩
abbrev S512 : Shape := ⟨1, ![512]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩
abbrev S2x8x64x64 : Shape := ⟨4, ![2, 8, 64, 64]⟩
abbrev S2x8192x8x64 : Shape := ⟨4, ![2, 8192, 8, 64]⟩
abbrev S8192x2x8x64 : Shape := ⟨4, ![8192, 2, 8, 64]⟩
abbrev S1x2x8x64 : Shape := ⟨4, ![1, 2, 8, 64]⟩
abbrev S2x8x64 : Shape := ⟨3, ![2, 8, 64]⟩
abbrev S2x8x1x64 : Shape := ⟨4, ![2, 8, 1, 64]⟩
abbrev S2x8x64x1 : Shape := ⟨4, ![2, 8, 64, 1]⟩
abbrev S2x8192x8 : Shape := ⟨3, ![2, 8192, 8]⟩
abbrev S2x8192x8x1 : Shape := ⟨4, ![2, 8192, 8, 1]⟩
abbrev S8x64 : Shape := ⟨2, ![8, 64]⟩
abbrev S1x1x8x64 : Shape := ⟨4, ![1, 1, 8, 64]⟩
abbrev S16384x2048 : Shape := ⟨2, ![16384, 2048]⟩

abbrev nBuf : Space → Nat
  | .hbm => 145
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .bf16⟩
  | 4 => ⟨S16384x512, .bf16⟩
  | 5 => ⟨S16384x512, .f32⟩
  | 6 => ⟨S16384x512, .f32⟩
  | 7 => ⟨S16384x512, .f32⟩
  | 8 => ⟨S16384x1024, .bf16⟩
  | 9 => ⟨S1024x2048, .bf16⟩
  | 10 => ⟨S512, .f32⟩
  | 11 => ⟨S512, .f32⟩
  | 12 => ⟨S1024x1024, .f32⟩
  | 13 => ⟨S1024x1024, .f32⟩
  | 14 => ⟨S1024x4096, .f32⟩
  | 15 => ⟨S4096x1024, .f32⟩
  | 16 => ⟨S_, .f32⟩
  | 17 => ⟨S2x8x64x64, .f32⟩
  | 18 => ⟨S16384x512, .f32⟩
  | 19 => ⟨S2x8192x8x64, .f32⟩
  | 20 => ⟨S8192x2x8x64, .f32⟩
  | 21 => ⟨S2x8192x8x64, .f32⟩
  | 22 => ⟨S8192x2x8x64, .f32⟩
  | 23 => ⟨S8192x2x8x64, .f32⟩
  | 24 => ⟨S16384x512, .f32⟩
  | 25 => ⟨S2x8192x8x64, .f32⟩
  | 26 => ⟨S8192x2x8x64, .f32⟩
  | 27 => ⟨S16384x512, .f32⟩
  | 28 => ⟨S2x8192x8x64, .f32⟩
  | 29 => ⟨S8192x2x8x64, .f32⟩
  | 30 => ⟨S16384x512, .f32⟩
  | 31 => ⟨S2x8192x8x64, .f32⟩
  | 32 => ⟨S8192x2x8x64, .f32⟩
  | 33 => ⟨S16384x512, .f32⟩
  | 34 => ⟨S2x8192x8x64, .f32⟩
  | 35 => ⟨S8192x2x8x64, .f32⟩
  | 36 => ⟨S_, .f32⟩
  | 37 => ⟨S8192x2x8x64, .f32⟩
  | 38 => ⟨S_, .i32⟩
  | 39 => ⟨S8192x2x8x64, .f32⟩
  | 40 => ⟨S8192x2x8x64, .f32⟩
  | 41 => ⟨S8192x2x8x64, .f32⟩
  | 42 => ⟨S8192x2x8x64, .f32⟩
  | 43 => ⟨S8192x2x8x64, .f32⟩
  | 44 => ⟨S8192x2x8x64, .f32⟩
  | 45 => ⟨S_, .i32⟩
  | 46 => ⟨S2x8x64x64, .f32⟩
  | 47 => ⟨S8192x2x8x64, .f32⟩
  | 48 => ⟨S_, .i32⟩
  | 49 => ⟨S_, .i1⟩
  | 50 => ⟨S_, .i32⟩
  | 51 => ⟨S_, .i32⟩
  | 52 => ⟨S_, .i32⟩
  | 53 => ⟨S1x2x8x64, .f32⟩
  | 54 => ⟨S2x8x64, .f32⟩
  | 55 => ⟨S_, .i32⟩
  | 56 => ⟨S_, .i32⟩
  | 57 => ⟨S_, .i32⟩
  | 58 => ⟨S1x2x8x64, .f32⟩
  | 59 => ⟨S2x8x64, .f32⟩
  | 60 => ⟨S_, .i32⟩
  | 61 => ⟨S_, .i32⟩
  | 62 => ⟨S_, .i32⟩
  | 63 => ⟨S1x2x8x64, .f32⟩
  | 64 => ⟨S2x8x64, .f32⟩
  | 65 => ⟨S_, .i32⟩
  | 66 => ⟨S_, .i32⟩
  | 67 => ⟨S_, .i32⟩
  | 68 => ⟨S1x2x8x64, .f32⟩
  | 69 => ⟨S2x8x64, .f32⟩
  | 70 => ⟨S_, .i32⟩
  | 71 => ⟨S_, .i32⟩
  | 72 => ⟨S_, .i32⟩
  | 73 => ⟨S1x2x8x64, .f32⟩
  | 74 => ⟨S2x8x64, .f32⟩
  | 75 => ⟨S_, .i32⟩
  | 76 => ⟨S_, .i32⟩
  | 77 => ⟨S_, .i32⟩
  | 78 => ⟨S1x2x8x64, .f32⟩
  | 79 => ⟨S2x8x64, .f32⟩
  | 80 => ⟨S2x8x64, .f32⟩
  | 81 => ⟨S2x8x1x64, .f32⟩
  | 82 => ⟨S2x8x64x64, .f32⟩
  | 83 => ⟨S2x8x64x64, .f32⟩
  | 84 => ⟨S2x8x64x1, .f32⟩
  | 85 => ⟨S2x8x1x64, .f32⟩
  | 86 => ⟨S2x8x64x64, .f32⟩
  | 87 => ⟨S2x8x64x64, .f32⟩
  | 88 => ⟨S2x8x64x64, .f32⟩
  | 89 => ⟨S2x8x64x64, .f32⟩
  | 90 => ⟨S2x8x64x1, .f32⟩
  | 91 => ⟨S2x8x1x64, .f32⟩
  | 92 => ⟨S2x8x64x64, .f32⟩
  | 93 => ⟨S2x8x64x64, .f32⟩
  | 94 => ⟨S2x8x64x64, .f32⟩
  | 95 => ⟨S2x8x64x64, .f32⟩
  | 96 => ⟨S2x8x64, .f32⟩
  | 97 => ⟨S1x2x8x64, .f32⟩
  | 98 => ⟨S_, .i32⟩
  | 99 => ⟨S_, .i32⟩
  | 100 => ⟨S_, .i32⟩
  | 101 => ⟨S8192x2x8x64, .f32⟩
  | 102 => ⟨S_, .i32⟩
  | 103 => ⟨S_, .i32⟩
  | 104 => ⟨S2x8192x8x64, .f32⟩
  | 105 => ⟨S_, .f32⟩
  | 106 => ⟨S2x8192x8, .f32⟩
  | 107 => ⟨S2x8192x8x1, .f32⟩
  | 108 => ⟨S_, .f32⟩
  | 109 => ⟨S2x8192x8x1, .f32⟩
  | 110 => ⟨S2x8192x8x1, .f32⟩
  | 111 => ⟨S2x8192x8x64, .f32⟩
  | 112 => ⟨S2x8192x8x64, .f32⟩
  | 113 => ⟨S2x8192x8x64, .f32⟩
  | 114 => ⟨S_, .f32⟩
  | 115 => ⟨S2x8192x8, .f32⟩
  | 116 => ⟨S2x8192x8x1, .f32⟩
  | 117 => ⟨S_, .f32⟩
  | 118 => ⟨S2x8192x8x1, .f32⟩
  | 119 => ⟨S2x8192x8x1, .f32⟩
  | 120 => ⟨S2x8192x8x64, .f32⟩
  | 121 => ⟨S2x8192x8x64, .f32⟩
  | 122 => ⟨S_, .f32⟩
  | 123 => ⟨S2x8192x8x1, .f32⟩
  | 124 => ⟨S2x8192x8x1, .f32⟩
  | 125 => ⟨S2x8192x8x1, .f32⟩
  | 126 => ⟨S2x8192x8x64, .f32⟩
  | 127 => ⟨S2x8192x8x64, .f32⟩
  | _ => ⟨S16384x512, .bf16⟩

abbrev hbmTy0_1 (i : Nat) : BufTy := match i % 128 with
  | 0 => ⟨S8x64, .f32⟩
  | 1 => ⟨S1x1x8x64, .f32⟩
  | 2 => ⟨S2x8192x8x64, .f32⟩
  | 3 => ⟨S2x8192x8x64, .f32⟩
  | 4 => ⟨S8x64, .f32⟩
  | 5 => ⟨S1x1x8x64, .f32⟩
  | 6 => ⟨S2x8192x8x64, .f32⟩
  | 7 => ⟨S2x8192x8x64, .f32⟩
  | 8 => ⟨S16384x512, .f32⟩
  | 9 => ⟨S16384x512, .f32⟩
  | 10 => ⟨S16384x512, .f32⟩
  | 11 => ⟨S16384x2048, .f32⟩
  | 12 => ⟨S16384x2048, .bf16⟩
  | 13 => ⟨S1024x1024, .bf16⟩
  | 14 => ⟨S1024x1024, .bf16⟩
  | 15 => ⟨S1024x4096, .bf16⟩
  | 16 => ⟨S4096x1024, .bf16⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_c : Ref sig .tc := ⟨.hbm, 38, rfl⟩
abbrev main_v20_0 : Ref sig .tc := ⟨.hbm, 39, rfl⟩
abbrev main_v20_1 : Ref sig .tc := ⟨.hbm, 40, rfl⟩
abbrev main_v20_2 : Ref sig .tc := ⟨.hbm, 41, rfl⟩
abbrev main_v20_3 : Ref sig .tc := ⟨.hbm, 42, rfl⟩
abbrev main_v20_4 : Ref sig .tc := ⟨.hbm, 43, rfl⟩
abbrev main_v20_5 : Ref sig .tc := ⟨.hbm, 44, rfl⟩
abbrev main_v20_6 : Ref sig .tc := ⟨.hbm, 45, rfl⟩
abbrev main_v20_7 : Ref sig .tc := ⟨.hbm, 46, rfl⟩
abbrev main_v20_8 : Ref sig .tc := ⟨.hbm, 47, rfl⟩
abbrev main_while0c_c_14 : Ref sig .tc := ⟨.hbm, 48, rfl⟩
abbrev main_while0c_v57 : Ref sig .tc := ⟨.hbm, 49, rfl⟩
abbrev main_while0b_call0_c : Ref sig .tc := ⟨.hbm, 50, rfl⟩
abbrev main_while0b_call0_c_0 : Ref sig .tc := ⟨.hbm, 51, rfl⟩
abbrev main_while0b_call0_c_1 : Ref sig .tc := ⟨.hbm, 52, rfl⟩
abbrev main_while0b_call0_v0 : Ref sig .tc := ⟨.hbm, 53, rfl⟩
abbrev main_while0b_v57 : Ref sig .tc := ⟨.hbm, 54, rfl⟩
abbrev main_while0b_call1_c : Ref sig .tc := ⟨.hbm, 55, rfl⟩
abbrev main_while0b_call1_c_0 : Ref sig .tc := ⟨.hbm, 56, rfl⟩
abbrev main_while0b_call1_c_1 : Ref sig .tc := ⟨.hbm, 57, rfl⟩
abbrev main_while0b_call1_v0 : Ref sig .tc := ⟨.hbm, 58, rfl⟩
abbrev main_while0b_v58 : Ref sig .tc := ⟨.hbm, 59, rfl⟩
abbrev main_while0b_call2_c : Ref sig .tc := ⟨.hbm, 60, rfl⟩
abbrev main_while0b_call2_c_0 : Ref sig .tc := ⟨.hbm, 61, rfl⟩
abbrev main_while0b_call2_c_1 : Ref sig .tc := ⟨.hbm, 62, rfl⟩
abbrev main_while0b_call2_v0 : Ref sig .tc := ⟨.hbm, 63, rfl⟩
abbrev main_while0b_v59 : Ref sig .tc := ⟨.hbm, 64, rfl⟩
abbrev main_while0b_call3_c : Ref sig .tc := ⟨.hbm, 65, rfl⟩
abbrev main_while0b_call3_c_0 : Ref sig .tc := ⟨.hbm, 66, rfl⟩
abbrev main_while0b_call3_c_1 : Ref sig .tc := ⟨.hbm, 67, rfl⟩
abbrev main_while0b_call3_v0 : Ref sig .tc := ⟨.hbm, 68, rfl⟩
abbrev main_while0b_v60 : Ref sig .tc := ⟨.hbm, 69, rfl⟩
abbrev main_while0b_call4_c : Ref sig .tc := ⟨.hbm, 70, rfl⟩
abbrev main_while0b_call4_c_0 : Ref sig .tc := ⟨.hbm, 71, rfl⟩
abbrev main_while0b_call4_c_1 : Ref sig .tc := ⟨.hbm, 72, rfl⟩
abbrev main_while0b_call4_v0 : Ref sig .tc := ⟨.hbm, 73, rfl⟩
abbrev main_while0b_v61 : Ref sig .tc := ⟨.hbm, 74, rfl⟩
abbrev main_while0b_call5_c : Ref sig .tc := ⟨.hbm, 75, rfl⟩
abbrev main_while0b_call5_c_0 : Ref sig .tc := ⟨.hbm, 76, rfl⟩
abbrev main_while0b_call5_c_1 : Ref sig .tc := ⟨.hbm, 77, rfl⟩
abbrev main_while0b_call5_v0 : Ref sig .tc := ⟨.hbm, 78, rfl⟩
abbrev main_while0b_v62 : Ref sig .tc := ⟨.hbm, 79, rfl⟩
abbrev main_while0b_v63 : Ref sig .tc := ⟨.hbm, 80, rfl⟩
abbrev main_while0b_v64 : Ref sig .tc := ⟨.hbm, 81, rfl⟩
abbrev main_while0b_v65 : Ref sig .tc := ⟨.hbm, 82, rfl⟩
abbrev main_while0b_v66 : Ref sig .tc := ⟨.hbm, 83, rfl⟩
abbrev main_while0b_v67 : Ref sig .tc := ⟨.hbm, 84, rfl⟩
abbrev main_while0b_v68 : Ref sig .tc := ⟨.hbm, 85, rfl⟩
abbrev main_while0b_v69 : Ref sig .tc := ⟨.hbm, 86, rfl⟩
abbrev main_while0b_v70 : Ref sig .tc := ⟨.hbm, 87, rfl⟩
abbrev main_while0b_v71 : Ref sig .tc := ⟨.hbm, 88, rfl⟩
abbrev main_while0b_v72 : Ref sig .tc := ⟨.hbm, 89, rfl⟩
abbrev main_while0b_v73 : Ref sig .tc := ⟨.hbm, 90, rfl⟩
abbrev main_while0b_v74 : Ref sig .tc := ⟨.hbm, 91, rfl⟩
abbrev main_while0b_v75 : Ref sig .tc := ⟨.hbm, 92, rfl⟩
abbrev main_while0b_v76 : Ref sig .tc := ⟨.hbm, 93, rfl⟩
abbrev main_while0b_v77 : Ref sig .tc := ⟨.hbm, 94, rfl⟩
abbrev main_while0b_v78 : Ref sig .tc := ⟨.hbm, 95, rfl⟩
abbrev main_while0b_v79 : Ref sig .tc := ⟨.hbm, 96, rfl⟩
abbrev main_while0b_call6_v0 : Ref sig .tc := ⟨.hbm, 97, rfl⟩
abbrev main_while0b_call6_c : Ref sig .tc := ⟨.hbm, 98, rfl⟩
abbrev main_while0b_call6_c_0 : Ref sig .tc := ⟨.hbm, 99, rfl⟩
abbrev main_while0b_call6_c_1 : Ref sig .tc := ⟨.hbm, 100, rfl⟩
abbrev main_while0b_v80 : Ref sig .tc := ⟨.hbm, 101, rfl⟩
abbrev main_while0b_c_14 : Ref sig .tc := ⟨.hbm, 102, rfl⟩
abbrev main_while0b_v81 : Ref sig .tc := ⟨.hbm, 103, rfl⟩
abbrev main_v21 : Ref sig .tc := ⟨.hbm, 104, rfl⟩
abbrev main_cst_1 : Ref sig .tc := ⟨.hbm, 105, rfl⟩
abbrev main_v22 : Ref sig .tc := ⟨.hbm, 106, rfl⟩
abbrev main_v23 : Ref sig .tc := ⟨.hbm, 107, rfl⟩
abbrev main_cst_2 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev main_v27 : Ref sig .tc := ⟨.hbm, 112, rfl⟩
abbrev main_v28 : Ref sig .tc := ⟨.hbm, 113, rfl⟩
abbrev main_cst_3 : Ref sig .tc := ⟨.hbm, 114, rfl⟩
abbrev main_v29 : Ref sig .tc := ⟨.hbm, 115, rfl⟩
abbrev main_v30 : Ref sig .tc := ⟨.hbm, 116, rfl⟩
abbrev main_cst_4 : Ref sig .tc := ⟨.hbm, 117, rfl⟩
abbrev main_v31 : Ref sig .tc := ⟨.hbm, 118, rfl⟩
abbrev main_v32 : Ref sig .tc := ⟨.hbm, 119, rfl⟩
abbrev main_v33 : Ref sig .tc := ⟨.hbm, 120, rfl⟩
abbrev main_v34 : Ref sig .tc := ⟨.hbm, 121, rfl⟩
abbrev main_cst_5 : Ref sig .tc := ⟨.hbm, 122, rfl⟩
abbrev main_v35 : Ref sig .tc := ⟨.hbm, 123, rfl⟩
abbrev main_v36 : Ref sig .tc := ⟨.hbm, 124, rfl⟩
abbrev main_v37 : Ref sig .tc := ⟨.hbm, 125, rfl⟩
abbrev main_v38 : Ref sig .tc := ⟨.hbm, 126, rfl⟩
abbrev main_v39 : Ref sig .tc := ⟨.hbm, 127, rfl⟩
abbrev main_v40 : Ref sig .tc := ⟨.hbm, 128, rfl⟩
abbrev main_v41 : Ref sig .tc := ⟨.hbm, 129, rfl⟩
abbrev main_v42 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S16384x1024 : Shape := ⟨2, ![16384, 1024]⟩
abbrev S16384x512 : Shape := ⟨2, ![16384, 512]⟩
abbrev S16384x2048 : Shape := ⟨2, ![16384, 2048]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x2048, .bf16⟩
  | .hbm, ⟨4, _⟩ => ⟨S1024x1024, .bf16⟩
  | .hbm, ⟨5, _⟩ => ⟨S1024x1024, .bf16⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1024x4096, .bf16⟩
  | .local _ .vmem, ⟨12, _⟩ => ⟨S4096x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S16384x1024 : Shape := ⟨2, ![16384, 1024]⟩
abbrev S16384x512 : Shape := ⟨2, ![16384, 512]⟩
abbrev S16384x2048 : Shape := ⟨2, ![16384, 2048]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S512x1024 : Shape := ⟨2, ![512, 1024]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x2048, .bf16⟩
  | .hbm, ⟨4, _⟩ => ⟨S1024x1024, .bf16⟩
  | .hbm, ⟨5, _⟩ => ⟨S1024x1024, .bf16⟩
  | .hbm, ⟨6, _⟩ => ⟨S1024, .f32⟩
  | .hbm, ⟨7, _⟩ => ⟨S1024x4096, .bf16⟩
  | .hbm, ⟨8, _⟩ => ⟨S4096x1024, .bf16⟩
  | .hbm, ⟨9, _⟩ => ⟨S1024, .f32⟩
  | .hbm, ⟨10, _⟩ => ⟨S16384x2048, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S16384x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S1024x1024, .f32⟩
  | .hbm, ⟨30, _⟩ => ⟨S512x1024, .f32⟩
  | .hbm, ⟨31, _⟩ => ⟨S16384x1024, .f32⟩
  | .hbm, ⟨32, _⟩ => ⟨S16384x1024, .f32⟩
  | .hbm, ⟨33, _⟩ => ⟨S512x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S1024x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S16384x1, .f32⟩
  | .hbm, ⟨51, _⟩ => ⟨S16384x1024, .f32⟩
  | .hbm, ⟨52, _⟩ => ⟨S16384x1024, .f32⟩
  | .hbm, ⟨53, _⟩ => ⟨S1x1024, .f32⟩
  | .hbm, ⟨54, _⟩ => ⟨S16384x1024, .f32⟩
  | .hbm, ⟨55, _⟩ => ⟨S16384x1024, .f32⟩
  | .hbm, ⟨56, _⟩ => ⟨S1024x4096, .f32⟩
  | .hbm, ⟨57, _⟩ => ⟨S16384x4096, .f32⟩
  | .hbm, ⟨58, _⟩ => ⟨S_, .f32⟩
  | .hbm, ⟨59, _⟩ => ⟨S16384x4096, .f32⟩
  | .hbm, ⟨60, _⟩ => ⟨S16384x4096, .f32⟩
  | .hbm, ⟨61, _⟩ => ⟨S16384x4096, .f32⟩
  | .hbm, ⟨62, _⟩ => ⟨S4096x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S_, .f32⟩
  | .hbm, ⟨70, _⟩ => ⟨S16384x1, .f32⟩
  | .hbm, ⟨71, _⟩ => ⟨S16384x1, .f32⟩
  | .hbm, ⟨72, _⟩ => ⟨S_, .f32⟩
  | .hbm, ⟨73, _⟩ => ⟨S16384x1, .f32⟩
  | .hbm, ⟨74, _⟩ => ⟨S16384x1, .f32⟩
  | .hbm, ⟨75, _⟩ => ⟨S16384x1, .f32⟩
  | .hbm, ⟨76, _⟩ => ⟨S16384x1024, .f32⟩
  | .hbm, ⟨77, _⟩ => ⟨S16384x1024, .f32⟩
  | .hbm, ⟨78, _⟩ => ⟨S1x1024, .f32⟩
  | .hbm, ⟨79, _⟩ => ⟨S16384x1024, .f32⟩
  | .hbm, ⟨80, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call0_cst : Ref sig .tc := ⟨.hbm, 58, rfl⟩
abbrev main_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_6 : Ref sig .tc := ⟨.hbm, 66, rfl⟩
abbrev main_v47 : Ref sig .tc := ⟨.hbm, 67, rfl⟩
abbrev main_v48 : Ref sig .tc := ⟨.hbm, 68, rfl⟩
abbrev main_cst_7 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Proof.Tail.lean ====
/-
  The closing call: the gated merge of the two branches, the output projection, the squared-ReLU MLP and the final norm,
  read row by row. `Row.out` is the row's result as a function of the rows of the arguments and of the weights.
-/
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.Tactic.CleanTypes
public import Idealize.ShloMosaic.Lib.Pipeline.ValueKit
public import Idealize.ShloMosaic.Lib.Quiescent

@[expose] public section

set_option maxRecDepth 16384

noncomputable section

namespace Cert.Proof.Tail

open Idealize.ShloMosaic Idealize.ShloMosaic.TcCoe Idealize.SL.Sem

/-! ## One row -/

/-- The two branches, each gated and projected, at column `k` of the merged row. -/
def merged (oa ob : Fin 512 → EReal) (zg : Fin 2048 → EReal) (wb : Fin 1024 → Fin 1024 → EReal) (k : Fin 1024) : EReal :=
  Ideal.logistic (zg ⟨k, by omega⟩) * ∑ c : Fin 512, oa c * wb ⟨c, by omega⟩ k
    + Ideal.logistic (zg ⟨1024 + k, by omega⟩) * ∑ c : Fin 512, ob c * wb ⟨512 + c, by omega⟩ k

/-- The residual row after the token mixers. -/
def mixed (x : Fin 1024 → EReal) (mg : Fin 1024 → EReal) (wo : Fin 1024 → Fin 1024 → EReal) (q : Fin 1024) : EReal :=
  x q + ∑ k : Fin 1024, mg k * wo k q

/-- The root-mean-square norm of a row, scaled by `g`. -/
def norm (f g : Fin 1024 → EReal) (q : Fin 1024) : EReal :=
  f q * Ideal.rsqrt (Ideal.div (∑ k : Fin 1024, f k * f k) (Ideal.ofBits .f32 0x44800000#32)
    + Ideal.ofBits .f32 0x358637BD#32) * g q

/-- A hidden unit's squared ReLU. -/
def hid (h : Fin 1024 → EReal) (w : Fin 1024 → EReal) : EReal :=
  max (∑ c : Fin 1024, h c * w c) 0 * max (∑ c : Fin 1024, h c * w c) 0

/-- The residual row after the channel mixer, all 4096 hidden units in one sum. -/
def fed (f h : Fin 1024 → EReal) (w1 : Fin 1024 → Fin 4096 → EReal) (w2 : Fin 4096 → Fin 1024 → EReal) (q : Fin 1024) : EReal :=
  f q + ∑ k : Fin 4096, hid h (fun c => w1 c k) * w2 k q

/-- The sum over 4096 hidden units, a block of 1024 after the other. -/
theorem sum_blocks (f : Fin 4096 → EReal) (x : EReal) :
    x + ∑ k : Fin 4096, f k = x + (∑ k : Fin 1024, f ⟨k, by omega⟩) + (∑ k : Fin 1024, f ⟨1024 + k, by omega⟩)
      + (∑ k : Fin 1024, f ⟨2048 + k, by omega⟩) + (∑ k : Fin 1024, f ⟨3072 + k, by omega⟩) := by
  have h : ∀ g : Fin (1024 + 3072) → EReal, ∑ k, g k = _ := fun g => Fin.sum_univ_add g
  have h2 : ∀ g : Fin (1024 + 2048) → EReal, ∑ k, g k = _ := fun g => Fin.sum_univ_add g
  have h3 : ∀ g : Fin (1024 + 1024) → EReal, ∑ k, g k = _ := fun g => Fin.sum_univ_add g
  refine (congrArg (x + ·) ((h f).trans (congrArg _ ((h2 _).trans (congrArg _ (h3 _)))))).trans ?_
  simp only [add_assoc]
  rfl

/-- The row's result. -/
def out (x : Fin 1024 → EReal) (oa ob : Fin 512 → EReal) (zg : Fin 2048 → EReal) (wb wo : Fin 1024 → Fin 1024 → EReal)
    (g2 : Fin 1024 → EReal) (w1 : Fin 1024 → Fin 4096 → EReal) (w2 : Fin 4096 → Fin 1024 → EReal) (gf : Fin 1024 → EReal) :
    Fin 1024 → EReal :=
  norm (fed (mixed x (merged oa ob zg wb) wo) (norm (mixed x (merged oa ob zg wb) wo) g2) w1 w2) gf

/-! ## The kernel's block -/

section kernel

open Cert.Kernel2Ideal Cert.Kernel2Ideal.Gen

variable (m : (ℓ : Loc nD τ sig) → Buf (Elt Ideal) ℓ) (c : Dev nD)

/-- The result array, row by row. -/
def result : S16384x1024.Idx → EReal := fun j =>
  out (fun q => m ((c : Thread nD τ).loc main_arg0) (ix2 (j 0) q)) (fun q => m ((c : Thread nD τ).loc main_arg1) (ix2 (j 0) q))
    (fun q => m ((c : Thread nD τ).loc main_arg2) (ix2 (j 0) q)) (fun q => m ((c : Thread nD τ).loc main_arg3) (ix2 (j 0) q))
    (fun k q => m ((c : Thread nD τ).loc main_arg4) (ix2 k q)) (fun k q => m ((c : Thread nD τ).loc main_arg5) (ix2 k q))
    (fun q => m ((c : Thread nD τ).loc main_arg6) (ix1 q)) (fun k q => m ((c : Thread nD τ).loc main_arg7) (ix2 k q))
    (fun k q => m ((c : Thread nD τ).loc main_arg8) (ix2 k q)) (fun q => m ((c : Thread nD τ).loc main_arg9) (ix1 q)) (j 1)

variable (v0 : Vec Ideal S512x1024 .f32) (v1 : Vec Ideal S512x2048 .bf16) (v4 v8 : Vec Ideal S512x512 .f32)
  (v6 v10 : Vec Ideal S512x1024 .bf16) (w : Vec Ideal S1024x1024 .bf16) (g : Vec Ideal S1x1024 .f32)

theorem pay2_at (r : Fin 512) (q : Fin 1024) : k0_pay2 v0 v1 v4 v6 v8 v10 w (ix2 r q)
    = v0 (ix2 r q) + ∑ k : Fin 1024,
      (Ideal.logistic (v1 (ix2 r ⟨k, by omega⟩)) * ∑ c : Fin 512, v4 (ix2 r c) * v6 (ix2 c k)
        + Ideal.logistic (v1 (ix2 r ⟨1024 + k, by omega⟩)) * ∑ c : Fin 512, v8 (ix2 r c) * v10 (ix2 c k)) * w (ix2 k q) := by
  pointwise [k0_pay2]

theorem pay3_at (r : Fin 512) (q : Fin 1024) : k0_pay3 v0 v1 v4 v6 v8 v10 w g (ix2 r q)
    = norm (fun q => k0_pay2 v0 v1 v4 v6 v8 v10 w (ix2 r q)) (fun q => g (ix2 0 q)) q := by
  pointwise [k0_pay3, norm]

variable (f : FVec Ideal S512x1024 .f32) (h : FVec Ideal S512x1024 .bf16) (a0 b0 a1 b1 a2 b2 a3 b3 : Vec Ideal S1024x1024 .bf16)

theorem pay5_at (r : Fin 512) (k : Fin 1024) : k0_pay5 h a3 (ix2 r k)
    = hid (fun c => h (ix2 r c)) (fun c => a3 (ix2 c k)) := by
  pointwise [k0_pay5, hid]

theorem pay4_at (r : Fin 512) (q : Fin 1024) : k0_pay4 f h a0 b0 a1 b1 a2 b2 (ix2 r q)
    = f (ix2 r q) + (∑ k : Fin 1024, hid (fun c => h (ix2 r c)) (fun c => a0 (ix2 c k)) * b0 (ix2 k q))
      + (∑ k : Fin 1024, hid (fun c => h (ix2 r c)) (fun c => a1 (ix2 c k)) * b1 (ix2 k q))
      + (∑ k : Fin 1024, hid (fun c => h (ix2 r c)) (fun c => a2 (ix2 c k)) * b2 (ix2 k q)) := by
  pointwise [k0_pay4, hid]

theorem pay1_at (r : Fin 512) (q : Fin 1024) : k0_pay1 f h w g (ix2 r q)
    = norm (fun q => f (ix2 r q) + ∑ k : Fin 1024, h (ix2 r k) * w (ix2 k q)) (fun q => g (ix2 0 q)) q := by
  pointwise [k0_pay1, norm]

theorem idx : ∀ t : Fin cfg0.N, (win0_0.index t = ![t.val, 0] ∧ win0_1.index t = ![t.val, 0] ∧ win0_2.index t = ![t.val, 0]
    ∧ win0_3.index t = ![t.val, 0] ∧ win0_10.index t = ![t.val, 0]) ∧ win0_4.index t = ![0, 0] ∧ win0_5.index t = ![0, 0]
    ∧ win0_6.index t = ![0, 0] ∧ win0_7.index t = ![0, 0] ∧ win0_8.index t = ![0, 0] ∧ win0_9.index t = ![0, 0] :=
  (by decide +kernel : ∀ t : Fin grid0.N, _)

theorem arr_eq : (dats m 0 c).arrAt 10 cfg0.N = result m c := by
  refine (dats m 0 c).arrAt_eq_of_covers 10 _ (by decide +kernel) fun t hf y => ?_
  blk_simp
  rw [after0_10]
  unfold_out out0_10
  frame_out
  idx_vars y
  simp only [pay1_at, pay4_at, pay5_at, pay3_at, pay2_at]
  simp only [result, out, norm, fed, mixed, merged, hid, sum_blocks]
  blk_point [iblk, V, idx t]

end kernel

section reference

open Cert.Reference2Ideal Cert.Reference2Ideal.Gen

theorem ref_eq (m : (ℓ : Loc nD τ sig) → Buf (Elt Ideal) ℓ) (c : Dev nD) (j : S16384x1024.Idx) :
    Value.res_main_v58 m c j =
    out (fun q => m ((c : Thread nD τ).loc main_arg0) (ix2 (j 0) q)) (fun q => m ((c : Thread nD τ).loc main_arg1) (ix2 (j 0) q))
    (fun q => m ((c : Thread nD τ).loc main_arg2) (ix2 (j 0) q)) (fun q => m ((c : Thread nD τ).loc main_arg3) (ix2 (j 0) q))
    (fun k q => m ((c : Thread nD τ).loc main_arg4) (ix2 k q)) (fun k q => m ((c : Thread nD τ).loc main_arg5) (ix2 k q))
    (fun q => m ((c : Thread nD τ).loc main_arg6) (ix1 q)) (fun k q => m ((c : Thread nD τ).loc main_arg7) (ix2 k q))
    (fun k q => m ((c : Thread nD τ).loc main_arg8) (ix2 k q)) (fun q => m ((c : Thread nD τ).loc main_arg9) (ix1 q)) (j 1) := by
  unfold Value.res_main_v58
  idx_vars j
  clean_types
  pointwise [out, norm, fed, mixed, merged, hid, Ideal.logistic]

end reference

/-! ## The claims -/

/-- The reference's frame. -/
theorem ref_quiescent : Cert.quiescent_Reference2Ideal (hReference2Ideal := Cert.Reference2Ideal.Gen.facts) := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

/-- The closing call computes what its reference does, on every argument. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => result m c, ?_, ?_⟩
  · exact (θ_run Cert.Kernel2Ideal.defs _ _).mono (fun r h c => ⟨(h c).1.trans (arr_eq m c), (h c).2⟩)
      (Cert.Kernel2Ideal.Value.run_blocks m g)
  · refine (θ_run Cert.Reference2Ideal.defs _ _).mono (fun r h c => ⟨(h c).1.trans (funext fun j => ?_), (h c).2⟩)
      (Cert.Reference2Ideal.Value.run m' g')
    obtain ⟨h0, h1, h2, h3, h4, h5, h6, h7, h8, h9⟩ := hargs c
    rw [ref_eq, h0, h1, h2, h3, h4, h5, h6, h7, h8, h9]
    rfl

end Cert.Proof.Tail

end
-- ==== Proof.RwkvItem.lean ====
/-
  One chunk of 64 frames of one pair of heads, in the vocabulary of the recurrence's call: the two heads of a pair lie side
  by side in 128 lanes, a matrix per head is 64 by 64, and products of pairs go through block-diagonal 128 by 128 matrices.
-/
module

public import proofs.«01_k».proof.Proof.Gen.KernelIdeal.Frame.Runs

@[expose] public section

set_option maxRecDepth 16384

noncomputable section

namespace Cert.Proof.Rwkv

open Idealize.ShloMosaic Idealize.ShloMosaic.TcCoe Idealize.SL.Sem
open Cert.KernelIdeal Cert.KernelIdeal.Gen

variable {F : FTy → Type} [FloatOps F]

/-- The lanes of the pair's first head. -/
def first : IVec S64x128 1 :=
  cmpi .slt (iota .tc S64x128 32 [1] iota_S64x128_d1_w32) (broadcast S64x128 64#32)

def zeros : FVec F S64x128 .f32 := broadcast S64x128 (Scalar.ofBits .f32 0x00000000#32)

/-- A pair of matrices as a block-diagonal matrix. -/
def diag (x : FVec F S64x128 .f32) : FVec F S128x128 .f32 :=
  concatenate S128x128 0 [⟨S64x128, select first x zeros⟩, ⟨S64x128, select first zeros x⟩]
    concatenates_S64x128_S64x128_S128x128_d0

def blocks (x : FVec F S64x128 .f32) : FVec F S128x128 .bf16 := truncf .bf16 (diag x) bitsLt_bf16_f32

/-- Both matrices of a pair transposed. -/
def flip (x : FVec F S64x128 .f32) : FVec F S64x128 .f32 :=
  addf (extractStridedSlice S64x128 ![0, 0] (transpose S128x128 [1, 0] (diag x) transposes_S128x128_p1_0_S128x128)
      slices_S128x128_o0_0_S64x128)
    (extractStridedSlice S64x128 ![64, 0] (transpose S128x128 [1, 0] (diag x) transposes_S128x128_p1_0_S128x128)
      slices_S128x128_o64_0_S64x128)

def narrow (x : FVec F S64x128 .f32) : FVec F S64x128 .bf16 := truncf .bf16 x bitsLt_bf16_f32

/-- One pair above another. -/
def over (x y : FVec F S64x128 .f32) : FVec F S128x128 .bf16 :=
  truncf .bf16 (concatenate S128x128 0 [⟨S64x128, x⟩, ⟨S64x128, y⟩] concatenates_S64x128_S64x128_S128x128_d0)
    bitsLt_bf16_f32

/-- One pair beside another. -/
def beside (x y : FVec F S64x128 .f32) : FVec F S64x256 .bf16 :=
  truncf .bf16 (concatenate S64x256 1 [⟨S64x128, x⟩, ⟨S64x128, y⟩] concatenates_S64x128_S64x128_S64x256_d1)
    bitsLt_bf16_f32

/-- One block-diagonal matrix beside another. -/
def wide (x y : FVec F S128x128 .bf16) : FVec F S128x256 .bf16 :=
  concatenate S128x256 1 [⟨S128x128, x⟩, ⟨S128x128, y⟩] concatenates_S128x128_S128x128_S128x256_d1

def top (x : FVec F S128x128 .f32) : FVec F S64x128 .f32 :=
  extractStridedSlice S64x128 ![0, 0] x slices_S128x128_o0_0_S64x128

def bottom (x : FVec F S128x128 .f32) : FVec F S64x128 .f32 :=
  extractStridedSlice S64x128 ![64, 0] x slices_S128x128_o64_0_S64x128

def left (x : FVec F S64x256 .f32) : FVec F S64x128 .f32 :=
  extractStridedSlice S64x128 ![0, 0] x slices_S64x256_o0_0_S64x128

def right (x : FVec F S64x256 .f32) : FVec F S64x128 .f32 :=
  extractStridedSlice S64x128 ![0, 128] x slices_S64x256_o0_128_S64x128

/-- A pair times a pair of matrices given as a block-diagonal one. -/
def mul (x : FVec F S64x128 .bf16) (y : FVec F S128x128 .bf16) : FVec F S64x128 .f32 :=
  matmul dot_S64x128_S128x128_S64x128_1_0_0_1_n_n none x y (constant S64x128 .f32 0x00000000#32)

def mul2 (x y : FVec F S128x128 .bf16) : FVec F S128x128 .f32 :=
  matmul dot_S128x128_S128x128_S128x128_1_0_0_1_n_n none x y (constant S128x128 .f32 0x00000000#32)

/-- The lane within its head, and the masks below, on and at the diagonal of each head's matrix. -/
def col : IVec S64x128 32 := k0_pay31
def strict : IVec S64x128 1 := k0_pay34 (iota .tc S64x128 32 [0] iota_S64x128_d0_w32) 64#32 col (cmpi .ne col (broadcast S64x128 0#32)) 0#32
def incl : IVec S64x128 1 := k0_pay35 (iota .tc S64x128 32 [0] iota_S64x128_d0_w32) 64#32 col (cmpi .ne col (broadcast S64x128 0#32)) 0#32
def eye : IVec S64x128 1 := k0_pay36 (iota .tc S64x128 32 [0] iota_S64x128_d0_w32) 64#32 col (cmpi .ne col (broadcast S64x128 0#32)) 0#32

/-- The products of the rows of `at` and `rt` with those of `bt` and `kt`. -/
def scores (a r b k : FVec F S64x128 .f32) : FVec F S128x256 .f32 :=
  matmul dot_S128x128_S256x128_S128x256_1_1_0_0_n_n none (over a r)
    (concatenate S256x128 0 [⟨S128x128, blocks b⟩, ⟨S128x128, blocks k⟩] concatenates_S128x128_S128x128_S256x128_d0)
    (constant S128x256 .f32 0x00000000#32)

def sab (s : FVec F S128x256 .f32) : FVec F S64x128 .f32 :=
  select strict (extractStridedSlice S64x128 ![0, 0] s slices_S128x256_o0_0_S64x128) zeros

def sak (s : FVec F S128x256 .f32) : FVec F S64x128 .f32 :=
  select strict (extractStridedSlice S64x128 ![0, 128] s slices_S128x256_o0_128_S64x128) zeros

def srb (s : FVec F S128x256 .f32) : FVec F S64x128 .f32 :=
  select incl (extractStridedSlice S64x128 ![64, 0] s slices_S128x256_o64_0_S64x128) zeros

def srk (s : FVec F S128x256 .f32) : FVec F S64x128 .f32 :=
  select incl (extractStridedSlice S64x128 ![64, 128] s slices_S128x256_o64_128_S64x128) zeros

/-- The geometric sum of `n`, doubled step by step: the sum so far, and the power the next step multiplies by. -/
def sum1 (n : FVec F S64x128 .f32) : FVec F S64x128 .f32 :=
  addf (select eye (broadcast S64x128 (Scalar.ofBits .f32 0x3F800000#32)) zeros) n

def pow1 (n : FVec F S64x128 .f32) : FVec F S64x128 .f32 := mul (narrow n) (blocks n)

def next (s : FVec F S64x128 .f32 × FVec F S64x128 .f32) : FVec F S64x128 .f32 × FVec F S64x128 .f32 :=
  (addf s.1 (top (mul2 (over s.1 s.2) (blocks s.2))), bottom (mul2 (over s.1 s.2) (blocks s.2)))

def geom (n : FVec F S64x128 .f32) : FVec F S64x128 .f32 × FVec F S64x128 .f32 :=
  next (next (next (next (sum1 n, pow1 n))))

def inv (n : FVec F S64x128 .f32) : FVec F S64x128 .f32 :=
  addf (geom n).1 (mul (narrow (geom n).1) (blocks (geom n).2))

/-- `inv · at` beside `inv · (Sak · v)`. -/
def solved (i a av : FVec F S64x128 .f32) : FVec F S64x256 .f32 :=
  matmul dot_S64x128_S128x256_S64x256_1_0_0_1_n_n none (narrow i) (wide (blocks a) (blocks av))
    (constant S64x256 .f32 0x00000000#32)

def stack (w : FVec F S64x256 .f32) (v : FVec F S64x128 .f32) : FVec F S256x256 .bf16 :=
  concatenate S256x256 0
    [⟨S128x256, wide (blocks (left w)) (blocks (right w))⟩,
     ⟨S128x256, wide (broadcast S128x128 (Scalar.ofBits .bf16 0x0000#16)) (blocks v)⟩]
    concatenates_S128x256_S128x256_S256x256_d0

def joint (s bk : FVec F S64x256 .bf16) (z : FVec F S256x256 .bf16) : FVec F S128x256 .f32 :=
  matmul dot_S128x256_S256x256_S128x256_1_0_0_1_n_n none
    (concatenate S128x256 0 [⟨S64x256, s⟩, ⟨S64x256, bk⟩] concatenates_S64x256_S64x256_S128x256_d0) z
    (constant S128x256 .f32 0x00000000#32)

/-- A chunk's operands of one pair. -/
structure Ops (F : FTy → Type) where
  a : FVec F S64x128 .f32
  r : FVec F S64x128 .f32
  b : FVec F S64x128 .f32
  k : FVec F S64x128 .f32
  bh : FVec F S64x128 .f32
  kh : FVec F S64x128 .f32
  v : FVec F S64x128 .f32
  decay : FVec F S1x128 .f32

namespace Ops

variable (o : Ops F)

def s : FVec F S128x256 .f32 := scores o.a o.r o.b o.k

def w : FVec F S64x256 .f32 := solved (inv (sab o.s)) o.a (mul (narrow (sak o.s)) (blocks o.v))

def j : FVec F S128x256 .f32 :=
  joint (beside (srb o.s) (srk o.s)) (beside (flip o.bh) (flip o.kh)) (stack o.w o.v)

def qy : FVec F S64x256 .f32 := extractStridedSlice S64x256 ![0, 0] o.j slices_S128x256_o0_0_S64x256

def mg : FVec F S64x256 .f32 := extractStridedSlice S64x256 ![64, 0] o.j slices_S128x256_o64_0_S64x256

def m : FVec F S64x128 .f32 :=
  addf (select eye (broadcastTo S64x128 (shapeCast S1x128 o.decay shapeCasts_S1x128_S1x128) broadcasts_S1x128_S64x128) zeros)
    (left o.mg)

def q : FVec F S64x128 .f32 := addf o.r (left o.qy)

/-- What the chunk reads from the state, and the state it leaves. -/
def both (h : FVec F S64x128 .f32) : FVec F S128x128 .f32 := mul2 (over o.q o.m) (blocks h)

def y (h : FVec F S64x128 .f32) : FVec F S64x128 .f32 := addf (top (o.both h)) (right o.qy)

def h' (h : FVec F S64x128 .f32) : FVec F S64x128 .f32 := addf (bottom (o.both h)) (right o.mg)

end Ops

/-- The sum over each head's lanes, in every lane of the head. -/
def headSum (ones : FVec F S128x128 .bf16) (x : FVec F S64x512 .f32) : FVec F S64x512 .f32 :=
  let p : FVec F S256x128 .f32 := matmul dot_S256x128_S128x128_S256x128_1_0_0_1_n_n none
    (truncf .bf16 (concatenate S256x128 0
      [⟨S64x128, extractStridedSlice S64x128 ![0, 0] x slices_S64x512_o0_0_S64x128⟩,
       ⟨S64x128, extractStridedSlice S64x128 ![0, 128] x slices_S64x512_o0_128_S64x128⟩,
       ⟨S64x128, extractStridedSlice S64x128 ![0, 256] x slices_S64x512_o0_256_S64x128⟩,
       ⟨S64x128, extractStridedSlice S64x128 ![0, 384] x slices_S64x512_o0_384_S64x128⟩]
      concatenates_S64x128_S64x128_S64x128_S64x128_S256x128_d0) bitsLt_bf16_f32) ones (constant S256x128 .f32 0x00000000#32)
  concatenate S64x512 1
    [⟨S64x128, extractStridedSlice S64x128 ![0, 0] p slices_S256x128_o0_0_S64x128⟩,
     ⟨S64x128, extractStridedSlice S64x128 ![64, 0] p slices_S256x128_o64_0_S64x128⟩,
     ⟨S64x128, extractStridedSlice S64x128 ![128, 0] p slices_S256x128_o128_0_S64x128⟩,
     ⟨S64x128, extractStridedSlice S64x128 ![192, 0] p slices_S256x128_o192_0_S64x128⟩]
    concatenates_S64x128_S64x128_S64x128_S64x128_S64x512_d1

/-- A chunk's group norm, bonus and gate. -/
def close (ones : FVec F S128x128 .bf16) (g b : FVec F S1x512 .f32) (bonus gate y : FVec F S64x512 .f32) : FVec F S64x512 .f32 :=
  let yc := subf y (mulf (headSum ones y) (broadcast S64x512 (Scalar.ofBits .f32 0x3C800000#32)))
  let var := mulf (headSum ones (mulf yc yc)) (broadcast S64x512 (Scalar.ofBits .f32 0x3C800000#32))
  let yn := mulf yc (rsqrt (addf var (broadcast S64x512 (Scalar.ofBits .f32 0x3A27C5AC#32))))
  mulf (addf (addf (mulf yn (broadcastTo S64x512 (shapeCast S1x512 g shapeCasts_S1x512_S1x512) broadcasts_S1x512_S64x512))
    (broadcastTo S64x512 (shapeCast S1x512 b shapeCasts_S1x512_S1x512) broadcasts_S1x512_S64x512)) bonus) gate

/-- Four pairs side by side. -/
def pairs (y : Fin 4 → FVec F S64x128 .f32) : FVec F S64x512 .f32 :=
  concatenate S64x512 1 [⟨S64x128, y 0⟩, ⟨S64x128, y 1⟩, ⟨S64x128, y 2⟩, ⟨S64x128, y 3⟩]
    concatenates_S64x128_S64x128_S64x128_S64x128_S64x512_d1

end Cert.Proof.Rwkv
-- ==== Proof.RwkvMath.lean ====
/-
  The recurrence over the reals, and its chunked form. A state is a key by value matrix; a frame multiplies its rows by
  `exp w`, adds `b` times what `a` reads from it, adds `k` times `v`, and reads the new state with `r`. Over a chunk of 64
  frames the states' corrections `u` solve a unit lower triangular system, and all frames are read at once.
-/
module

public import Mathlib.Data.Real.Basic
public import Mathlib.Analysis.SpecialFunctions.Exp
public import Mathlib.Data.Matrix.Basic
public import Mathlib.Tactic.Ring
public import Mathlib.Tactic.Abel
public import Mathlib.Tactic.NthRewrite

@[expose] public section

noncomputable section

namespace Cert.Proof.Rwkv

open Matrix Finset

abbrev Mat := Matrix (Fin 64) (Fin 64) ℝ

/-! ## The geometric sum of a strictly lower triangular matrix -/

theorem pow_lower (N : Mat) (h : ∀ i j, i ≤ j → N i j = 0) (n : ℕ) (i j : Fin 64) (hij : i.val < j.val + n) :
    (N ^ n) i j = 0 := by
  induction n generalizing i with
  | zero => rw [pow_zero, Matrix.one_apply_ne]; rintro rfl; omega
  | succ n ih =>
    rw [pow_succ', Matrix.mul_apply]
    refine Finset.sum_eq_zero fun k _ => ?_
    by_cases hk : i ≤ k
    · rw [h i k hk, zero_mul]
    · rw [ih k (by have := Fin.not_le.1 hk; omega), mul_zero]

/-- One doubling step keeps the sum's defect equal to the power. -/
theorem double (N X P : Mat) (hc : P * N = N * P) (h : X * (1 - N) = 1 - P) : (X + X * P) * (1 - N) = 1 - P * P := by
  have e : P * (1 - N) = (1 - N) * P := by rw [mul_sub, sub_mul, mul_one, one_mul, hc]
  rw [add_mul, Matrix.mul_assoc X P, e, ← Matrix.mul_assoc, h, sub_mul, one_mul]
  abel

def step (s : Mat × Mat) : Mat × Mat := (s.1 + s.1 * s.2, s.2 * s.2)

def geo (N : Mat) : Mat × Mat := step (step (step (step (1 + N, N * N))))

def inverse (N : Mat) : Mat := (geo N).1 + (geo N).1 * (geo N).2

theorem step_ok (N : Mat) (s : Mat × Mat) (hc : s.2 * N = N * s.2) (h : s.1 * (1 - N) = 1 - s.2) :
    (step s).2 * N = N * (step s).2 ∧ (step s).1 * (1 - N) = 1 - (step s).2 := by
  refine ⟨?_, double N _ _ hc h⟩
  show s.2 * s.2 * N = N * (s.2 * s.2)
  rw [Matrix.mul_assoc, hc, ← Matrix.mul_assoc, hc, Matrix.mul_assoc]

theorem inverse_mul (N : Mat) (hN : ∀ i j, i ≤ j → N i j = 0) : inverse N * (1 - N) = 1 := by
  have h0 : (N * N) * N = N * (N * N) ∧ (1 + N) * (1 - N) = 1 - N * N :=
    ⟨Matrix.mul_assoc _ _ _, by rw [add_mul, one_mul, mul_sub, mul_one]; abel⟩
  have h1 := step_ok N (1 + N, N * N) h0.1 h0.2
  have h2 := step_ok N _ h1.1 h1.2
  have h3 := step_ok N _ h2.1 h2.2
  have h4 := step_ok N _ h3.1 h3.2
  have h5 := double N (geo N).1 (geo N).2 h4.1 h4.2
  have hp : (geo N).2 * (geo N).2 = N ^ 64 := by
    show (_ * _) = _
    simp only [geo, step]
    rw [← pow_two N]
    simp only [← pow_add]
  have hz : N ^ 64 = 0 := by
    ext i j
    exact pow_lower N hN 64 i j (by have := i.isLt; omega)
  rw [inverse, h5, hp, hz, sub_zero]

/-- The system's solution. -/
theorem solve (N U B : Mat) (hN : ∀ i j, i ≤ j → N i j = 0) (h : U = B + N * U) : U = inverse N * B := by
  have e : (1 - N) * U = B := by
    rw [sub_mul, one_mul]; nth_rewrite 1 [h]; abel
  rw [← e, ← Matrix.mul_assoc, inverse_mul N hN, Matrix.one_mul]

/-! ## The recurrence -/

/-- The operands of a sequence of frames of one head: frame, then lane. -/
structure Seq where
  r : ℕ → Fin 64 → ℝ
  w : ℕ → Fin 64 → ℝ
  k : ℕ → Fin 64 → ℝ
  v : ℕ → Fin 64 → ℝ
  a : ℕ → Fin 64 → ℝ
  b : ℕ → Fin 64 → ℝ

namespace Seq

variable (q : Seq)

/-- The state before frame `n`, at a key and a value lane. -/
def state : ℕ → Mat
  | 0 => 0
  | n + 1 => fun κ ν => state n κ ν * Real.exp (q.w n κ) + (∑ i, state n i ν * q.a n i) * q.b n κ + q.v n ν * q.k n κ

/-- Frame `n`'s output. -/
def out (n : ℕ) (ν : Fin 64) : ℝ := ∑ κ, q.state (n + 1) κ ν * q.r n κ

/-- The decay's exponent over the first `t` frames from frame `n`. -/
def cum (n t : ℕ) (κ : Fin 64) : ℝ := ∑ s ∈ range t, q.w (n + s) κ

theorem cum_succ (n t : ℕ) (κ : Fin 64) : q.cum n (t + 1) κ = q.cum n t κ + q.w (n + t) κ := Finset.sum_range_succ _ _

def at' (n : ℕ) : Mat := fun t κ => q.a (n + t) κ * Real.exp (q.cum n t κ)
def rt (n : ℕ) : Mat := fun t κ => q.r (n + t) κ * Real.exp (q.cum n (t + 1) κ)
def bt (n : ℕ) : Mat := fun t κ => q.b (n + t) κ * Real.exp (-q.cum n (t + 1) κ)
def kt (n : ℕ) : Mat := fun t κ => q.k (n + t) κ * Real.exp (-q.cum n (t + 1) κ)
def bh (n : ℕ) : Mat := fun t κ => q.b (n + t) κ * Real.exp (q.cum n 64 κ - q.cum n (t + 1) κ)
def kh (n : ℕ) : Mat := fun t κ => q.k (n + t) κ * Real.exp (q.cum n 64 κ - q.cum n (t + 1) κ)
def vt (n : ℕ) : Mat := fun t ν => q.v (n + t) ν

/-- What `a` reads from the state before frame `n + t`. -/
def read (n : ℕ) : Mat := fun t ν => ∑ i, q.state (n + t) i ν * q.a (n + t) i

/-- The state before frame `n + t`, with the decay since frame `n` divided out. -/
def scaled (n t : ℕ) (κ ν : Fin 64) : ℝ := q.state (n + t) κ ν * Real.exp (-q.cum n t κ)

theorem state_eq (n t : ℕ) (κ ν : Fin 64) : q.state (n + t) κ ν = q.scaled n t κ ν * Real.exp (q.cum n t κ) := by
  rw [scaled, mul_assoc, ← Real.exp_add, neg_add_cancel, Real.exp_zero, mul_one]

theorem scaled_succ (n : ℕ) (t : Fin 64) (κ ν : Fin 64) :
    q.scaled n (t + 1) κ ν = q.scaled n t κ ν + (q.read n t ν * q.bt n t κ + q.vt n t ν * q.kt n t κ) := by
  have e : Real.exp (q.w (n + t) κ) * Real.exp (-q.cum n (t + 1) κ) = Real.exp (-q.cum n t κ) := by
    rw [← Real.exp_add, cum_succ]; congr 1; ring
  show (q.state (n + t) κ ν * Real.exp (q.w (n + t) κ) + (∑ i, q.state (n + t) i ν * q.a (n + t) i) * q.b (n + t) κ
    + q.v (n + t) ν * q.k (n + t) κ) * Real.exp (-q.cum n (t + 1) κ) = _
  rw [scaled, read, bt, kt, vt, ← e]; ring

theorem scaled_eq (n t : ℕ) (ht : t ≤ 64) (κ ν : Fin 64) :
    q.scaled n t κ ν = q.state n κ ν + ∑ s : Fin 64, if s.val < t then q.read n s ν * q.bt n s κ + q.vt n s ν * q.kt n s κ else 0 := by
  induction t with
  | zero => simp [scaled, cum]
  | succ t ih =>
    have h := q.scaled_succ n ⟨t, ht⟩ κ ν
    dsimp only at h
    rw [h, ih (by omega), add_assoc]
    congr 1
    generalize hg : (fun s : Fin 64 => q.read n s ν * q.bt n s κ + q.vt n s ν * q.kt n s κ) = g
    have hg' : ∀ s, q.read n s ν * q.bt n s κ + q.vt n s ν * q.kt n s κ = g s := fun s => congrFun hg s
    simp only [hg']
    have e : g ⟨t, ht⟩ = ∑ s : Fin 64, if s = ⟨t, ht⟩ then g s else 0 := by simp
    rw [e, ← Finset.sum_add_distrib]
    refine Finset.sum_congr rfl fun s _ => ?_
    by_cases h1 : s.val < t
    · rw [if_pos h1, if_neg (by rintro rfl; simp at h1), if_pos (by omega), add_zero]
    · by_cases h2 : s.val = t
      · rw [if_neg h1, if_pos (Fin.ext h2), if_pos (by omega), zero_add]
      · rw [if_neg h1, if_neg (fun hh => h2 (congrArg Fin.val hh)), if_neg (by omega), zero_add]

end Seq

/-- The entries strictly below, and those not above, the diagonal. -/
def below (x : Mat) : Mat := fun i j => if j.val < i.val then x i j else 0
def notAbove (x : Mat) : Mat := fun i j => if j.val ≤ i.val then x i j else 0

namespace Seq

variable (q : Seq)

/-- The products of a chunk's rows. -/
def sab (n : ℕ) : Mat := below (q.at' n * (q.bt n)ᵀ)
def sak (n : ℕ) : Mat := below (q.at' n * (q.kt n)ᵀ)
def srb (n : ℕ) : Mat := notAbove (q.rt n * (q.bt n)ᵀ)
def srk (n : ℕ) : Mat := notAbove (q.rt n * (q.kt n)ᵀ)

/-- A sum over lanes of a state that is a start and corrections so far. -/
theorem read_sum (n t : ℕ) (ht : t ≤ 64) (f : Fin 64 → ℝ) (ν : Fin 64) :
    ∑ κ, f κ * q.scaled n t κ ν = ∑ κ, f κ * q.state n κ ν
      + (∑ s : Fin 64, (if s.val < t then ∑ κ, f κ * q.bt n s κ else 0) * q.read n s ν
        + ∑ s : Fin 64, (if s.val < t then ∑ κ, f κ * q.kt n s κ else 0) * q.vt n s ν) := by
  simp only [q.scaled_eq n t ht, mul_add, Finset.sum_add_distrib, Finset.mul_sum]
  congr 1
  rw [Finset.sum_comm, ← Finset.sum_add_distrib]
  refine Finset.sum_congr rfl fun s _ => ?_
  by_cases h : s.val < t
  · simp only [if_pos h, Finset.sum_mul, ← Finset.sum_add_distrib]
    exact Finset.sum_congr rfl fun κ _ => by ring
  · simp [if_neg h]

theorem read_eq (n : ℕ) : q.read n = (q.at' n * q.state n + q.sak n * q.vt n) + q.sab n * q.read n := by
  ext t ν
  have h := q.read_sum n t.val t.isLt.le (fun κ => q.at' n t κ) ν
  have e : q.read n t ν = ∑ κ, q.at' n t κ * q.scaled n t κ ν := by
    refine Finset.sum_congr rfl fun κ _ => ?_
    rw [q.state_eq n t κ ν, at']; ring
  rw [e, h]
  simp only [Matrix.add_apply, Matrix.mul_apply, sab, sak, below, Matrix.transpose_apply]
  ring

theorem out_eq (n : ℕ) (t ν : Fin 64) :
    q.out (n + t) ν = (q.rt n * q.state n + (q.srb n * q.read n + q.srk n * q.vt n)) t ν := by
  have h := q.read_sum n (t.val + 1) t.isLt (fun κ => q.rt n t κ) ν
  have e : q.out (n + t) ν = ∑ κ, q.rt n t κ * q.scaled n (t + 1) κ ν := by
    refine Finset.sum_congr rfl fun κ _ => ?_
    rw [show n + t.val + 1 = n + (t.val + 1) from rfl, q.state_eq n (t + 1) κ ν, rt]; ring
  rw [e, h]
  simp only [Matrix.add_apply, Matrix.mul_apply, srb, srk, notAbove, Matrix.transpose_apply, Nat.lt_succ_iff]

theorem next_eq (n : ℕ) (κ ν : Fin 64) :
    q.state (n + 64) κ ν = Real.exp (q.cum n 64 κ) * q.state n κ ν + ((q.bh n)ᵀ * q.read n + (q.kh n)ᵀ * q.vt n) κ ν := by
  rw [q.state_eq n 64, q.scaled_eq n 64 le_rfl]
  simp only [Matrix.add_apply, Matrix.mul_apply, Matrix.transpose_apply, ← Finset.sum_add_distrib]
  rw [add_mul, mul_comm, Finset.sum_mul]
  congr 1
  refine Finset.sum_congr rfl fun s _ => ?_
  rw [if_pos s.isLt, bh, kh, bt, kt, sub_eq_add_neg, Real.exp_add]; ring

/-! ## The chunk as it is computed -/

def w' (n : ℕ) : Mat := inverse (q.sab n) * q.at' n
def u (n : ℕ) : Mat := inverse (q.sab n) * (q.sak n * q.vt n)

theorem read_chunk (n : ℕ) : q.read n = q.w' n * q.state n + q.u n := by
  have h := solve (q.sab n) (q.read n) _ (fun i j hij => if_neg (by omega)) (q.read_eq n)
  rw [h, Matrix.mul_add, ← Matrix.mul_assoc]; rfl

def m (n : ℕ) : Mat := fun i j => (if j = i then Real.exp (q.cum n 64 j) else 0) + ((q.bh n)ᵀ * q.w' n) i j

/-- A chunk's frames. -/
theorem out_chunk (n : ℕ) (t ν : Fin 64) :
    q.out (n + t) ν = ((q.rt n + q.srb n * q.w' n) * q.state n + (q.srb n * q.u n + q.srk n * q.vt n)) t ν := by
  rw [q.out_eq, read_chunk]
  refine congrFun (congrFun ?_ t) ν
  simp only [Matrix.mul_add, Matrix.add_mul, Matrix.mul_assoc]
  abel

/-- The state a chunk leaves. -/
theorem state_chunk (n : ℕ) : q.state (n + 64) = q.m n * q.state n + ((q.bh n)ᵀ * q.u n + (q.kh n)ᵀ * q.vt n) := by
  ext κ ν
  have e : (q.m n * q.state n) κ ν = Real.exp (q.cum n 64 κ) * q.state n κ ν + ((q.bh n)ᵀ * q.w' n * q.state n) κ ν := by
    simp only [Matrix.mul_apply (M := q.m n), Matrix.mul_apply (M := (q.bh n)ᵀ * q.w' n), m, add_mul, Finset.sum_add_distrib]
    congr 1
    simp
  rw [q.next_eq, read_chunk, Matrix.add_apply (q.m n * q.state n), e, add_assoc]
  congr 1
  simp only [Matrix.mul_add, Matrix.mul_assoc, Matrix.add_apply]
  ring

end Seq

end Cert.Proof.Rwkv
-- ==== Proof.RwkvLanes.lean ====
/-
  The pair-of-heads operations at their entries: every product is a product per head.
-/
module

public import proofs.«01_k».proof.Proof.RwkvItem
public import proofs.«01_k».proof.Proof.RwkvMath
public import Idealize.ShloMosaic.Lib.Pointwise

@[expose] public section

set_option maxRecDepth 16384

noncomputable section

namespace Cert.Proof.Rwkv

open Idealize.ShloMosaic Idealize.ShloMosaic.TcCoe Idealize.SL.Sem
open Cert.KernelIdeal Cert.KernelIdeal.Gen

/-- Lane `n` of a pair's head `p`. -/
def ln (p : Fin 2) (n : Fin 64) : Fin 128 := ⟨64 * p.val + n.val, by omega⟩

theorem ln_surj (l : Fin 128) : ∃ p n, l = ln p n :=
  ⟨⟨l.val / 64, by omega⟩, ⟨l.val % 64, by omega⟩, Fin.ext (by simp [ln]; omega)⟩

theorem sum_lanes {M : Type} [AddCommMonoid M] (f : Fin 128 → M) : ∑ l, f l = ∑ n, f (ln 0 n) + ∑ n, f (ln 1 n) := by
  rw [Fin.sum_univ_two_halves 64 64 rfl f]
  rfl

theorem ext_lanes {f g : FVec Ideal S64x128 .f32} (h : ∀ t p n, f (ix2 t (ln p n)) = g (ix2 t (ln p n))) : f = g := by
  funext i
  idx_vars i
  obtain ⟨p, n, rfl⟩ := ln_surj i1
  exact h _ _ _

theorem first_at (t : Fin 64) (p : Fin 2) (n : Fin 64) : first (ix2 t (ln p n)) = if p = 0 then 1#1 else 0#1 := by
  pointwise [first]
  revert p n; decide

variable (x y z : FVec Ideal S64x128 .f32)

theorem diag_at (p q : Fin 2) (k n : Fin 64) : diag x (ix2 (ln p k) (ln q n)) = if p = q then x (ix2 k (ln q n)) else 0 := by
  have h := first_at k q n
  have e : ∀ h0, (⟨64 + k.val - 64, h0⟩ : Fin 64) = k := fun _ => Fin.ext (by simp)
  fin_cases p <;> fin_cases q <;> pointwise [diag, zeros, ln] <;> simp_all [ln] <;> rfl

theorem sum_diag (p : Fin 2) (n : Fin 64) (f : Fin 128 → EReal) :
    ∑ l, f l * diag x (ix2 l (ln p n)) = ∑ k, f (ln p k) * x (ix2 k (ln p n)) := by
  rw [sum_lanes]
  simp only [diag_at]
  fin_cases p <;> simp

theorem mul_at (x : FVec Ideal S64x128 .bf16) (t : Fin 64) (p : Fin 2) (n : Fin 64) :
    mul x (blocks y) (ix2 t (ln p n)) = ∑ k : Fin 64, x (ix2 t (ln p k)) * y (ix2 k (ln p n)) := by
  rw [← sum_diag y p n fun l => x (ix2 t l)]
  pointwise [mul, blocks]

theorem mul2_top (z : FVec Ideal S64x128 .f32) : top (mul2 (over x y) (blocks z)) = mul (narrow x) (blocks z) := by
  refine ext_lanes fun t p n => ?_
  pointwise [top, mul2, over, mul, blocks, narrow]

theorem mul2_bottom : bottom (mul2 (over x y) (blocks z)) = mul (narrow y) (blocks z) := by
  refine ext_lanes fun t p n => ?_
  pointwise [bottom, mul2, over, mul, blocks, narrow]

theorem flip_at (t : Fin 64) (p : Fin 2) (n : Fin 64) : flip x (ix2 t (ln p n)) = x (ix2 n (ln p t)) := by
  have h : flip x (ix2 t (ln p n)) = diag x (ix2 (ln p n) (ln 0 t)) + diag x (ix2 (ln p n) (ln 1 t)) := by
    generalize hd : diag x = d
    pointwise [flip, hd, ln]
  rw [h, diag_at, diag_at]
  fin_cases p <;> simp

theorem left_solved : left (solved x y z) = mul (narrow x) (blocks y) := by
  refine ext_lanes fun t p n => ?_
  pointwise [left, solved, mul, wide, narrow]

theorem right_solved : right (solved x y z) = mul (narrow x) (blocks z) := by
  refine ext_lanes fun t p n => ?_
  pointwise [right, solved, mul, wide, narrow]

theorem strict_at (t : Fin 64) (p : Fin 2) (n : Fin 64) :
    strict (ix2 t (ln p n)) = if n.val < t.val then 1#1 else 0#1 := by
  pointwise [strict, k0_pay34, col, k0_pay31]
  revert t p n; decide +kernel

theorem incl_at (t : Fin 64) (p : Fin 2) (n : Fin 64) :
    incl (ix2 t (ln p n)) = if n.val ≤ t.val then 1#1 else 0#1 := by
  pointwise [incl, k0_pay35, col, k0_pay31]
  revert t p n; decide +kernel

theorem eye_at (t : Fin 64) (p : Fin 2) (n : Fin 64) :
    eye (ix2 t (ln p n)) = if n = t then 1#1 else 0#1 := by
  pointwise [eye, k0_pay36, col, k0_pay31]
  revert t p n; decide +kernel

end Cert.Proof.Rwkv
-- ==== Proof.RwkvChunk.lean ====
/-
  One chunk of one pair over the reals: what it reads from the state and the state it leaves are the recurrence's.
-/
module

public import proofs.«01_k».proof.Proof.RwkvLanes

@[expose] public section

set_option maxRecDepth 16384

noncomputable section

namespace Cert.Proof.Rwkv

open Idealize.ShloMosaic Idealize.ShloMosaic.TcCoe Idealize.SL.Sem
open Cert.KernelIdeal Cert.KernelIdeal.Gen

/-- A pair of real matrices in its lanes. -/
def lane (X : Fin 2 → Mat) : FVec Ideal S64x128 .f32 :=
  fun i => ((X ⟨(i 1).val / 64, by have : (i 1).val < 128 := (i 1).isLt; omega⟩ (i 0) ⟨(i 1).val % 64, by omega⟩ : ℝ) : EReal)

theorem lane_at (X : Fin 2 → Mat) (t : Fin 64) (p : Fin 2) (n : Fin 64) : lane X (ix2 t (ln p n)) = ((X p t n : ℝ) : EReal) := by
  have h1 : (⟨(ln p n).val / 64, by have := (ln p n).isLt; omega⟩ : Fin 2) = p := Fin.ext (by simp only [ln]; omega)
  have h2 : (⟨(ln p n).val % 64, by omega⟩ : Fin 64) = n := Fin.ext (by simp only [ln]; omega)
  show ((X ⟨(ln p n).val / 64, _⟩ t ⟨(ln p n).val % 64, _⟩ : ℝ) : EReal) = _
  rw [h1, h2]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_lane (X Y : Fin 2 → Mat) : mul (narrow (lane X)) (blocks (lane Y)) = lane fun p => X p * Y p := by
  refine ext_lanes fun t p n => ?_
  rw [mul_at, lane_at, Matrix.mul_apply, coe_sum]
  refine Finset.sum_congr rfl fun k _ => ?_
  rw [lane_at, EReal.coe_mul, ← lane_at X]
  rfl

theorem add_lane (X Y : Fin 2 → Mat) : addf (lane X) (lane Y) = lane fun p => X p + Y p := by
  refine ext_lanes fun t p n => ?_
  rw [lane_at, Matrix.add_apply, EReal.coe_add, ← lane_at X, ← lane_at Y]
  rfl

theorem flip_lane (X : Fin 2 → Mat) : flip (lane X) = lane fun p => (X p).transpose := by
  refine ext_lanes fun t p n => ?_
  rw [flip_at, lane_at, lane_at, Matrix.transpose_apply]

theorem eye_lane : select eye (broadcast S64x128 (Scalar.ofBits .f32 0x3F800000#32)) zeros = lane fun _ => 1 := by
  refine ext_lanes fun t p n => ?_
  have h := eye_at t p n
  rw [lane_at, Matrix.one_apply]
  pointwise [zeros]
  rw [h]
  by_cases e : n = t
  · subst e; simp; rfl
  · simp [e, Ne.symm e]; rfl

/-- A pair's decays in their lanes. -/
def row (d : Fin 2 → Fin 64 → ℝ) : FVec Ideal S1x128 .f32 :=
  fun i => ((d ⟨(i 1).val / 64, by have : (i 1).val < 128 := (i 1).isLt; omega⟩ ⟨(i 1).val % 64, by omega⟩ : ℝ) : EReal)

theorem row_at (d : Fin 2 → Fin 64 → ℝ) (p : Fin 2) (n : Fin 64) : row d (ix2 0 (ln p n)) = ((d p n : ℝ) : EReal) := by
  have h1 : (⟨(ln p n).val / 64, by have := (ln p n).isLt; omega⟩ : Fin 2) = p := Fin.ext (by simp only [ln]; omega)
  have h2 : (⟨(ln p n).val % 64, by omega⟩ : Fin 64) = n := Fin.ext (by simp only [ln]; omega)
  show ((d ⟨(ln p n).val / 64, _⟩ ⟨(ln p n).val % 64, _⟩ : ℝ) : EReal) = _
  rw [h1, h2]

/-- A matrix with `d` on its diagonal. -/
def scale (d : Fin 64 → ℝ) : Mat := fun i j => if j = i then d j else 0

theorem decay_lane (d : Fin 2 → Fin 64 → ℝ) :
    select eye (broadcastTo S64x128 (shapeCast S1x128 (row d) shapeCasts_S1x128_S1x128) broadcasts_S1x128_S64x128) zeros
      = lane fun p => scale (d p) := by
  refine ext_lanes fun t p n => ?_
  have h := eye_at t p n
  have e := row_at d p n
  generalize row d = y at *
  rw [lane_at, scale]
  pointwise [zeros]
  rw [h]
  by_cases e' : n = t
  · subst e'; simp; exact e
  · simp [e']; rfl

/-! ## The products of the rows -/

variable (A R B K : Fin 2 → Mat)

theorem dot_diag (x y : FVec Ideal S64x128 .f32) (t : Fin 64) (p : Fin 2) (n : Fin 64) :
    ∑ l, x (ix2 t l) * diag y (ix2 (ln p n) l) = ∑ k, x (ix2 t (ln p k)) * y (ix2 n (ln p k)) := by
  rw [sum_lanes]
  simp only [diag_at]
  fin_cases p <;> simp

theorem scores_ab (a r b k : FVec Ideal S64x128 .f32) (t : Fin 64) (p : Fin 2) (n : Fin 64) :
    extractStridedSlice S64x128 ![0, 0] (scores a r b k) slices_S128x256_o0_0_S64x128 (ix2 t (ln p n))
      = ∑ l, a (ix2 t l) * diag b (ix2 (ln p n) l) := by
  generalize hd : diag b = d
  generalize he : diag k = e
  pointwise [scores, over, blocks, hd, he]

theorem scores_ak (a r b k : FVec Ideal S64x128 .f32) (t : Fin 64) (p : Fin 2) (n : Fin 64) :
    extractStridedSlice S64x128 ![0, 128] (scores a r b k) slices_S128x256_o0_128_S64x128 (ix2 t (ln p n))
      = ∑ l, a (ix2 t l) * diag k (ix2 (ln p n) l) := by
  generalize hd : diag b = d
  generalize he : diag k = e
  pointwise [scores, over, blocks, hd, he]

theorem scores_rb (a r b k : FVec Ideal S64x128 .f32) (t : Fin 64) (p : Fin 2) (n : Fin 64) :
    extractStridedSlice S64x128 ![64, 0] (scores a r b k) slices_S128x256_o64_0_S64x128 (ix2 t (ln p n))
      = ∑ l, r (ix2 t l) * diag b (ix2 (ln p n) l) := by
  generalize hd : diag b = d
  generalize he : diag k = e
  pointwise [scores, over, blocks, hd, he]

theorem scores_rk (a r b k : FVec Ideal S64x128 .f32) (t : Fin 64) (p : Fin 2) (n : Fin 64) :
    extractStridedSlice S64x128 ![64, 128] (scores a r b k) slices_S128x256_o64_128_S64x128 (ix2 t (ln p n))
      = ∑ l, r (ix2 t l) * diag k (ix2 (ln p n) l) := by
  generalize hd : diag b = d
  generalize he : diag k = e
  pointwise [scores, over, blocks, hd, he]

theorem dot_lane (X Y : Fin 2 → Mat) (t : Fin 64) (p : Fin 2) (n : Fin 64) :
    ∑ l, lane X (ix2 t l) * diag (lane Y) (ix2 (ln p n) l) = ((X p * (Y p).transpose) t n : ℝ) := by
  rw [dot_diag, Matrix.mul_apply, coe_sum]
  refine Finset.sum_congr rfl fun k _ => ?_
  rw [lane_at, lane_at, Matrix.transpose_apply, EReal.coe_mul]

/-- A masked matrix, entry by entry. -/
theorem mask_at (c : IVec S64x128 1) (x : FVec Ideal S64x128 .f32) (t : Fin 64) (p : Fin 2) (n : Fin 64) (P : Prop) [Decidable P]
    (v : ℝ) (hc : c (ix2 t (ln p n)) = if P then 1#1 else 0#1) (hx : x (ix2 t (ln p n)) = v) :
    select c x zeros (ix2 t (ln p n)) = ((if P then v else 0 : ℝ) : EReal) := by
  pointwise [zeros]
  rw [hc, hx]
  by_cases h : P
  · simp only [if_pos h]; rfl
  · simp only [if_neg h]; rfl

theorem sab_lane : sab (scores (lane A) (lane R) (lane B) (lane K)) = lane fun p => below (A p * (B p).transpose) := by
  refine ext_lanes fun t p n => ?_
  rw [lane_at]
  exact mask_at _ _ t p n _ _ (strict_at t p n) ((scores_ab _ _ _ _ t p n).trans (dot_lane A B t p n))

theorem sak_lane : sak (scores (lane A) (lane R) (lane B) (lane K)) = lane fun p => below (A p * (K p).transpose) := by
  refine ext_lanes fun t p n => ?_
  rw [lane_at]
  exact mask_at _ _ t p n _ _ (strict_at t p n) ((scores_ak _ _ _ _ t p n).trans (dot_lane A K t p n))

theorem srb_lane : srb (scores (lane A) (lane R) (lane B) (lane K)) = lane fun p => notAbove (R p * (B p).transpose) := by
  refine ext_lanes fun t p n => ?_
  rw [lane_at]
  exact mask_at _ _ t p n _ _ (incl_at t p n) ((scores_rb _ _ _ _ t p n).trans (dot_lane R B t p n))

theorem srk_lane : srk (scores (lane A) (lane R) (lane B) (lane K)) = lane fun p => notAbove (R p * (K p).transpose) := by
  refine ext_lanes fun t p n => ?_
  rw [lane_at]
  exact mask_at _ _ t p n _ _ (incl_at t p n) ((scores_rk _ _ _ _ t p n).trans (dot_lane R K t p n))

/-! ## The inverse -/

theorem next_lane (X Y : Fin 2 → Mat) : next (lane X, lane Y) = (lane fun p => (step (X p, Y p)).1, lane fun p => (step (X p, Y p)).2) := by
  refine Prod.ext ?_ ?_
  · show addf (lane X) (top (mul2 (over (lane X) (lane Y)) (blocks (lane Y)))) = _
    rw [mul2_top, mul_lane, add_lane]; rfl
  · show bottom (mul2 (over (lane X) (lane Y)) (blocks (lane Y))) = _
    rw [mul2_bottom, mul_lane]; rfl

theorem inv_lane (N : Fin 2 → Mat) : inv (lane N) = lane fun p => inverse (N p) := by
  have h : geom (lane N) = (lane fun p => (geo (N p)).1, lane fun p => (geo (N p)).2) := by
    have h1 : sum1 (lane N) = lane fun p => 1 + N p := by rw [sum1, eye_lane, add_lane]
    have h2 : pow1 (lane N) = lane fun p => N p * N p := mul_lane N N
    rw [geom, h1, h2, next_lane, next_lane, next_lane, next_lane]; rfl
  rw [inv, h]
  dsimp only
  rw [mul_lane, add_lane]; rfl

/-! ## The stacked products -/

section joint

variable (s s' b b' v : FVec Ideal S64x128 .f32) (w : FVec Ideal S64x256 .f32)

theorem joint_tl : left (extractStridedSlice S64x256 ![0, 0] (joint (beside s s') (beside b b') (stack w v))
    slices_S128x256_o0_0_S64x256) = mul (narrow s) (blocks (left w)) := by
  refine ext_lanes fun t p n => ?_
  pointwise [left, joint, beside, stack, wide, mul, blocks, narrow]
  simp only [mul_zero, Finset.sum_const_zero, add_zero]

theorem joint_tr : right (extractStridedSlice S64x256 ![0, 0] (joint (beside s s') (beside b b') (stack w v))
    slices_S128x256_o0_0_S64x256) = addf (mul (narrow s) (blocks (right w))) (mul (narrow s') (blocks v)) := by
  refine ext_lanes fun t p n => ?_
  pointwise [right, joint, beside, stack, wide, mul, blocks, narrow]

theorem joint_bl : left (extractStridedSlice S64x256 ![64, 0] (joint (beside s s') (beside b b') (stack w v))
    slices_S128x256_o64_0_S64x256) = mul (narrow b) (blocks (left w)) := by
  refine ext_lanes fun t p n => ?_
  pointwise [left, joint, beside, stack, wide, mul, blocks, narrow]
  simp only [mul_zero, Finset.sum_const_zero, add_zero]

theorem joint_br : right (extractStridedSlice S64x256 ![64, 0] (joint (beside s s') (beside b b') (stack w v))
    slices_S128x256_o64_0_S64x256) = addf (mul (narrow b) (blocks (right w))) (mul (narrow b') (blocks v)) := by
  refine ext_lanes fun t p n => ?_
  pointwise [right, joint, beside, stack, wide, mul, blocks, narrow]

end joint

/-! ## A chunk -/

/-- The frames from frame `n` on. -/
def Seq.outs (q : Seq) (n : ℕ) : Mat := fun t ν => q.out (n + t) ν

/-- The operands of one chunk, starting at frame `n`, of the pair's two sequences. -/
structure Ops.Of (o : Ops Ideal) (q : Fin 2 → Seq) (n : ℕ) : Prop where
  a : o.a = lane fun p => (q p).at' n
  r : o.r = lane fun p => (q p).rt n
  b : o.b = lane fun p => (q p).bt n
  k : o.k = lane fun p => (q p).kt n
  bh : o.bh = lane fun p => (q p).bh n
  kh : o.kh = lane fun p => (q p).kh n
  v : o.v = lane fun p => (q p).vt n
  decay : o.decay = row fun p κ => Real.exp ((q p).cum n 64 κ)

namespace Ops.Of

variable {o : Ops Ideal} {q : Fin 2 → Seq} {n : ℕ} (h : o.Of q n)

include h

theorem sab_eq : Rwkv.sab o.s = lane fun p => (q p).sab n := by
  rw [Ops.s, h.a, h.r, h.b, h.k, sab_lane]; rfl

theorem sak_eq : Rwkv.sak o.s = lane fun p => (q p).sak n := by
  rw [Ops.s, h.a, h.r, h.b, h.k, sak_lane]; rfl

theorem srb_eq : Rwkv.srb o.s = lane fun p => (q p).srb n := by
  rw [Ops.s, h.a, h.r, h.b, h.k, srb_lane]; rfl

theorem srk_eq : Rwkv.srk o.s = lane fun p => (q p).srk n := by
  rw [Ops.s, h.a, h.r, h.b, h.k, srk_lane]; rfl

theorem left_w : left o.w = lane fun p => (q p).w' n := by
  rw [Ops.w, h.sab_eq, h.a, inv_lane, left_solved, mul_lane]; rfl

theorem right_w : right o.w = lane fun p => (q p).u n := by
  rw [Ops.w, h.sab_eq, h.sak_eq, h.v, inv_lane, right_solved, mul_lane, mul_lane]; rfl

theorem left_qy : left o.qy = lane fun p => (q p).srb n * (q p).w' n := by
  rw [Ops.qy, Ops.j, joint_tl, h.srb_eq, h.left_w, mul_lane]

theorem right_qy : right o.qy = lane fun p => (q p).srb n * (q p).u n + (q p).srk n * (q p).vt n := by
  rw [Ops.qy, Ops.j, joint_tr, h.srb_eq, h.srk_eq, h.right_w, h.v, mul_lane, mul_lane, add_lane]

theorem left_mg : left o.mg = lane fun p => ((q p).bh n).transpose * (q p).w' n := by
  rw [Ops.mg, Ops.j, joint_bl, h.bh, flip_lane, h.left_w, mul_lane]

theorem right_mg : right o.mg = lane fun p => ((q p).bh n).transpose * (q p).u n + ((q p).kh n).transpose * (q p).vt n := by
  rw [Ops.mg, Ops.j, joint_br, h.bh, h.kh, flip_lane, flip_lane, h.right_w, h.v, mul_lane, mul_lane, add_lane]

theorem m_eq : o.m = lane fun p => (q p).m n := by
  rw [Ops.m, h.decay, decay_lane, h.left_mg, add_lane]; rfl

theorem q_eq : o.q = lane fun p => (q p).rt n + (q p).srb n * (q p).w' n := by
  rw [Ops.q, h.r, h.left_qy, add_lane]

/-- A chunk's frames. -/
theorem y_eq : o.y (lane fun p => (q p).state n) = lane fun p => (q p).outs n := by
  rw [Ops.y, Ops.both, mul2_top, h.q_eq, h.right_qy, mul_lane, add_lane]
  congr 1
  funext p
  ext t ν
  exact ((q p).out_chunk n t ν).symm

/-- The state a chunk leaves. -/
theorem h'_eq : o.h' (lane fun p => (q p).state n) = lane fun p => (q p).state (n + 64) := by
  rw [Ops.h', Ops.both, mul2_bottom, h.m_eq, h.right_mg, mul_lane, add_lane]
  congr 1
  funext p
  exact ((q p).state_chunk n).symm

end Ops.Of

end Cert.Proof.Rwkv
-- ==== Proof.RwkvScan.lean ====
/-
  The reference's scan, frame by frame: its carried state and its outputs are those of the recurrence over the reals.
-/
module

public import proofs.«01_k».proof.Proof.Gen.ReferenceIdeal.Run
public import proofs.«01_k».proof.Proof.RwkvChunk
public import Idealize.ShloMosaic.Lib.Pointwise
public import Idealize.ShloMosaic.Lib.DynamicIndex
public import Idealize.ShloMosaic.Lib.Tactic.CleanTypes
public import Idealize.ShloMosaic.Lib.Pipeline.ValueKit

@[expose] public section

set_option maxRecDepth 16384

noncomputable section

namespace Cert.Proof.Rwkv

open Idealize.ShloMosaic Idealize.ShloMosaic.TcCoe Idealize.SL.Sem
open Idealize.ShloMosaic.StableHlo
open Cert.ReferenceIdeal Cert.ReferenceIdeal.Gen Cert.ReferenceIdeal.Value

section

variable (n : ℕ) (hn : n < 8192)

/-- The scan's counter at frame `n`, with the zero indices of the other axes. -/
def starts : Fin 4 → ℤ := fun k =>
  (((![fun _ => BitVec.ofNat 32 n, constantI S_ 32 0#32, constantI S_ 32 0#32, constantI S_ 32 0#32] : Fin 4 → (⟨S_, .i32⟩ : BufTy).Contents (Elt Ideal))) k (Shape.Idx.first h_S_)).toInt

include hn in
theorem starts_eq (a : Fin 4) : starts n a = ((![n, 0, 0, 0] : Fin 4 → ℕ) a : ℤ) := by
  have e : (BitVec.ofNat 32 n).toInt = (n : ℤ) := by
    rw [BitVec.toInt_ofNat', Int.bmod_eq_of_le] <;> omega
  fin_cases a
  · exact e
  all_goals rfl

include hn in
theorem inb_frame : (S8192x2x8x64).Slices ![n, 0, 0, 0] S1x2x8x64 := by
  refine ⟨rfl, fun a => ?_⟩
  fin_cases a <;> simp <;> omega

include hn in
theorem clamped (a : Fin 4) : (min (max (starts n a) 0) ((S8192x2x8x64.size a - S1x2x8x64.size a : ℕ) : ℤ)).toNat = (![n, 0, 0, 0] : Fin 4 → ℕ) a := by
  rw [starts_eq n hn]
  fin_cases a <;> simp <;> omega

/-- A frame of a per-head array, and an entry of the heads' states. -/
abbrev lanes (x : FVec Ideal S8192x2x8x64 .f32) (t : Fin 8192) (b : Fin 2) (h : Fin 8) (κ : Fin 64) : EReal := x (ix4 t b h κ)
abbrev entry (x : FVec Ideal S2x8x64x64 .f32) (b : Fin 2) (h : Fin 8) (ν κ : Fin 64) : EReal := x (ix4 b h ν κ)

theorem slice_at (x : FVec Ideal S8192x2x8x64 .f32) (b : Fin 2) (h : Fin 8) (κ : Fin 64) :
    shapeCast S2x8x64 (Host.dynamicSlice S1x2x8x64 x (starts n) sliceFits_S8192x2x8x64_S1x2x8x64) shapeCasts_S1x2x8x64_S2x8x64 (ix3 b h κ)
      = x (ix4 ⟨n, hn⟩ b h κ) := by
  rw [Host.dynamicSlice_eq_extractStridedSlice _ x (starts n) ![n, 0, 0, 0] _ (inb_frame n hn) (starts_eq n hn)]
  generalize inb_frame n hn = hs
  pointwise

include hn in
theorem update_at (x : FVec Ideal S8192x2x8x64 .f32) (u : FVec Ideal S1x2x8x64 .f32) (t : Fin 8192) (b : Fin 2) (h : Fin 8) (ν : Fin 64) :
    Host.dynamicUpdateSlice x u (starts n) updateFits_S8192x2x8x64_S1x2x8x64 (ix4 t b h ν) = if t.val = n then u (ix4 0 b h ν) else x (ix4 t b h ν) := by
  refine (congrFun (Host.dynamicUpdateSlice_eq_updateSlice x u (starts n) updateFits_S8192x2x8x64_S1x2x8x64 ![n, 0, 0, 0] (clamped n hn) (inb_frame n hn)) _).trans ?_
  generalize inb_frame n hn = hs
  unfold updateSlice
  by_cases ht : t.val = n
  · have hin : ∀ a : Fin 4, (![n, 0, 0, 0] : Fin 4 → ℕ) a ≤ (ix4 t b h ν a).val ∧ (ix4 t b h ν a).val < (![n, 0, 0, 0] : Fin 4 → ℕ) a + S1x2x8x64.size a := by
      intro a; fin_cases a <;> simp [ix4] <;> omega
    rw [if_pos ht]
    refine (dif_pos hin).trans (congrArg u (funext fun a => Fin.ext ?_))
    fin_cases a <;> simp [ix4] <;> omega
  · rw [if_neg ht]
    refine dif_neg fun hin => ht ?_
    have := hin 0
    simp [ix4] at this
    omega

/-- A scan step's state at an index. -/
theorem state_at (V : Valuation τ sig (Elt Ideal)) (hc : V (Proc.devRef .tc main_v20_6) = fun _ => BitVec.ofNat 32 n)
    (b : Fin 2) (h : Fin 8) (ν κ : Fin 64) :
    entry (res_main_while0b_v78 V) b h ν κ =
      entry (V (Proc.devRef .tc main_v20_7)) b h ν κ * lanes (V (Proc.devRef .tc main_v20_1)) ⟨n, hn⟩ b h κ
      + (∑ i : Fin 64, entry (V (Proc.devRef .tc main_v20_7)) b h ν i * lanes (V (Proc.devRef .tc main_v20_4)) ⟨n, hn⟩ b h i)
        * lanes (V (Proc.devRef .tc main_v20_5)) ⟨n, hn⟩ b h κ
      + lanes (V (Proc.devRef .tc main_v20_3)) ⟨n, hn⟩ b h ν * lanes (V (Proc.devRef .tc main_v20_2)) ⟨n, hn⟩ b h κ := by
  unfold res_main_while0b_v78
  rw [hc]
  change (_ : FVec Ideal S2x8x64x64 .f32) (ix4 b h ν κ) = _
  simp only [lanes, ← slice_at n hn]
  unfold starts
  generalize (V (Proc.devRef .tc main_v20_7) : FVec Ideal S2x8x64x64 .f32) = x7
  generalize (shapeCast S2x8x64 (Host.dynamicSlice S1x2x8x64 (V (Proc.devRef .tc main_v20_1) : FVec Ideal S8192x2x8x64 .f32) _ _) _ : FVec Ideal S2x8x64 .f32) = x1
  generalize (shapeCast S2x8x64 (Host.dynamicSlice S1x2x8x64 (V (Proc.devRef .tc main_v20_2) : FVec Ideal S8192x2x8x64 .f32) _ _) _ : FVec Ideal S2x8x64 .f32) = x2
  generalize (shapeCast S2x8x64 (Host.dynamicSlice S1x2x8x64 (V (Proc.devRef .tc main_v20_3) : FVec Ideal S8192x2x8x64 .f32) _ _) _ : FVec Ideal S2x8x64 .f32) = x3
  generalize (shapeCast S2x8x64 (Host.dynamicSlice S1x2x8x64 (V (Proc.devRef .tc main_v20_4) : FVec Ideal S8192x2x8x64 .f32) _ _) _ : FVec Ideal S2x8x64 .f32) = x4
  generalize (shapeCast S2x8x64 (Host.dynamicSlice S1x2x8x64 (V (Proc.devRef .tc main_v20_5) : FVec Ideal S8192x2x8x64 .f32) _ _) _ : FVec Ideal S2x8x64 .f32) = x5
  pointwise [entry]

/-- A scan step's outputs: the frame's own, and those before it. -/
theorem out_at (V : Valuation τ sig (Elt Ideal)) (hc : V (Proc.devRef .tc main_v20_6) = fun _ => BitVec.ofNat 32 n)
    (t : Fin 8192) (b : Fin 2) (h : Fin 8) (ν : Fin 64) :
    lanes (step_main_v20_8 V) t b h ν =
      if t.val = n then ∑ i : Fin 64, entry (res_main_while0b_v78 V) b h ν i * lanes (V (Proc.devRef .tc main_v20_0)) ⟨n, hn⟩ b h i
      else lanes (V (Proc.devRef .tc main_v20_8)) t b h ν := by
  unfold step_main_v20_8
  rw [hc]
  simp only [lanes, ← slice_at n hn]
  generalize (res_main_while0b_v78 V : FVec Ideal S2x8x64x64 .f32) = z
  refine (update_at n hn (V (Proc.devRef .tc main_v20_8)) _ t b h ν).trans ?_
  refine congrArg (fun e : EReal => if t.val = n then e else _) ?_
  unfold starts
  generalize (shapeCast S2x8x64 (Host.dynamicSlice S1x2x8x64 (V (Proc.devRef .tc main_v20_0) : FVec Ideal S8192x2x8x64 .f32) _ _) _ : FVec Ideal S2x8x64 .f32) = x0
  clean_types
  pointwise [entry]

end

/-- The scanned arrays hold the sequences' frames. -/
structure Scans (q : Fin 2 → Fin 8 → Seq) (V : Valuation τ sig (Elt Ideal)) : Prop where
  r : ∀ t b h κ, lanes (V (Proc.devRef .tc main_v20_0)) t b h κ = (((q b h).r t.val κ : ℝ) : EReal)
  w : ∀ t b h κ, lanes (V (Proc.devRef .tc main_v20_1)) t b h κ = ((Real.exp ((q b h).w t.val κ) : ℝ) : EReal)
  k : ∀ t b h κ, lanes (V (Proc.devRef .tc main_v20_2)) t b h κ = (((q b h).k t.val κ : ℝ) : EReal)
  v : ∀ t b h κ, lanes (V (Proc.devRef .tc main_v20_3)) t b h κ = (((q b h).v t.val κ : ℝ) : EReal)
  a : ∀ t b h κ, lanes (V (Proc.devRef .tc main_v20_4)) t b h κ = (((q b h).a t.val κ : ℝ) : EReal)
  b : ∀ t b h κ, lanes (V (Proc.devRef .tc main_v20_5)) t b h κ = (((q b h).b t.val κ : ℝ) : EReal)

theorem Scans.step {q : Fin 2 → Fin 8 → Seq} {V : Valuation τ sig (Elt Ideal)} (h : Scans q V) : Scans q (STEP V) where
  r := by rw [STEP_main_v20_0]; exact h.r
  w := by rw [STEP_main_v20_1]; exact h.w
  k := by rw [STEP_main_v20_2]; exact h.k
  v := by rw [STEP_main_v20_3]; exact h.v
  a := by rw [STEP_main_v20_4]; exact h.a
  b := by rw [STEP_main_v20_5]; exact h.b

/-- The scan after `n` frames: its counter, its states and the outputs so far. -/
theorem scan (q : Fin 2 → Fin 8 → Seq) (V : Valuation τ sig (Elt Ideal)) (hV : Scans q V)
    (h6 : V (Proc.devRef .tc main_v20_6) = fun _ => (0#32 : BitVec 32)) (h7 : ∀ b h ν κ, entry (V (Proc.devRef .tc main_v20_7)) b h ν κ = 0) :
    ∀ n ≤ 8192, Scans q (STEP^[n] V) ∧ (STEP^[n] V) (Proc.devRef .tc main_v20_6) = (fun _ => BitVec.ofNat 32 n)
      ∧ (∀ b h ν κ, entry ((STEP^[n] V) (Proc.devRef .tc main_v20_7)) b h ν κ = (((q b h).state n κ ν : ℝ) : EReal))
      ∧ (∀ t : Fin 8192, t.val < n → ∀ b h ν, lanes ((STEP^[n] V) (Proc.devRef .tc main_v20_8)) t b h ν = (((q b h).out t.val ν : ℝ) : EReal))
  | 0, _ => ⟨hV, h6, fun b h ν κ => (h7 b h ν κ).trans (by simp [Seq.state]), fun t ht => absurd ht (Nat.not_lt_zero _)⟩
  | n + 1, hn => by
    obtain ⟨hs, hc, hst, hout⟩ := scan q V hV h6 h7 n (by omega)
    rw [Function.iterate_succ_apply']
    generalize STEP^[n] V = W at hs hc hst hout
    have hst' : ∀ b h ν κ, entry (res_main_while0b_v78 W) b h ν κ = (((q b h).state (n + 1) κ ν : ℝ) : EReal) := fun b h ν κ => by
      rw [state_at n (by omega) W hc, hst, hs.w, hs.b, hs.v, hs.k]
      simp only [hst, hs.a, ← EReal.coe_mul, ← coe_sum, ← EReal.coe_add]
      rfl
    refine ⟨hs.step, ?_, ?_, ?_⟩
    · rw [STEP_main_v20_6]
      unfold step_main_v20_6
      rw [hc]
      funext y
      show BitVec.ofNat 32 n + 1#32 = _
      rw [BitVec.ofNat_add]
    · rw [STEP_main_v20_7]
      exact hst'
    · intro t ht b h ν
      rw [STEP_main_v20_8, out_at n (by omega) W hc]
      by_cases e : t.val = n
      · rw [if_pos e, e]
        simp only [hst', hs.r, ← EReal.coe_mul, ← coe_sum]
        rfl
      · rw [if_neg e]
        exact hout t (by omega) b h ν

/-! ## The scan's entry -/

variable (m : (ℓ : Loc nD τ sig) → Buf (Elt Ideal) ℓ) (c : Dev nD)

/-- Frame `t` of batch `b`, and lane `κ` of head `h`. -/
def place (b : Fin 2) (t : Fin 8192) : Fin 16384 := ⟨b.val * 8192 + t.val, by omega⟩
def slot (h : Fin 8) (κ : Fin 64) : Fin 512 := ⟨h.val * 64 + κ.val, by omega⟩

theorem split_at (x : FVec Ideal S16384x512 .bf16) (t : Fin 8192) (b : Fin 2) (h : Fin 8) (κ : Fin 64) :
    transpose S8192x2x8x64 [1, 0, 2, 3] (shapeCast S2x8192x8x64 (extf FTy.f32 x bitsLt_bf16_f32) shapeCasts_S16384x512_S2x8192x8x64)
      transposes_S2x8192x8x64_S8192x2x8x64_1_0_2_3 (ix4 t b h κ) = x (ix2 (place b t) (slot h κ)) := by
  pointwise [place, slot]

theorem decayed_at (x : FVec Ideal S16384x512 .f32) (t : Fin 8192) (b : Fin 2) (h : Fin 8) (κ : Fin 64) :
    Host.exp (transpose S8192x2x8x64 [1, 0, 2, 3] (shapeCast S2x8192x8x64 x shapeCasts_S16384x512_S2x8192x8x64)
      transposes_S2x8192x8x64_S8192x2x8x64_1_0_2_3) (ix4 t b h κ) = Ideal.exp (x (ix2 (place b t) (slot h κ))) := by
  pointwise [place, slot]

theorem zeros_at (b : Fin 2) (h : Fin 8) (ν κ : Fin 64) :
    broadcastInDim S2x8x64x64 ![] bcast_S_S2x8x64x64 (constant (F := Ideal) S_ FTy.f32 0#32) (ix4 b h ν κ) = 0 := by
  pointwise

section

variable (t : Fin 8192) (b : Fin 2) (h : Fin 8) (κ ν : Fin 64)

theorem entry_r : lanes (entryContents preI m c (Proc.devRef .tc main_v20_0)) t b h κ
    = (m ((c.tc : Thread nD τ).loc main_arg0) : FVec Ideal S16384x512 .bf16) (ix2 (place b t) (slot h κ)) := by
  simp only [entryContents, afterL_cons, afterL_nil]
  after_reads_simp
  exact split_at (m ((c.tc : Thread nD τ).loc main_arg0)) t b h κ

theorem entry_w : lanes (entryContents preI m c (Proc.devRef .tc main_v20_1)) t b h κ
    = Ideal.exp ((m ((c.tc : Thread nD τ).loc main_arg5) : FVec Ideal S16384x512 .f32) (ix2 (place b t) (slot h κ))) := by
  simp only [entryContents, afterL_cons, afterL_nil]
  after_reads_simp
  exact decayed_at (m ((c.tc : Thread nD τ).loc main_arg5)) t b h κ

theorem entry_k : lanes (entryContents preI m c (Proc.devRef .tc main_v20_2)) t b h κ
    = (m ((c.tc : Thread nD τ).loc main_arg1) : FVec Ideal S16384x512 .bf16) (ix2 (place b t) (slot h κ)) := by
  simp only [entryContents, afterL_cons, afterL_nil]
  after_reads_simp
  exact split_at (m ((c.tc : Thread nD τ).loc main_arg1)) t b h κ

theorem entry_v : lanes (entryContents preI m c (Proc.devRef .tc main_v20_3)) t b h κ
    = (m ((c.tc : Thread nD τ).loc main_arg2) : FVec Ideal S16384x512 .bf16) (ix2 (place b t) (slot h κ)) := by
  simp only [entryContents, afterL_cons, afterL_nil]
  after_reads_simp
  exact split_at (m ((c.tc : Thread nD τ).loc main_arg2)) t b h κ

theorem entry_a : lanes (entryContents preI m c (Proc.devRef .tc main_v20_4)) t b h κ
    = (m ((c.tc : Thread nD τ).loc main_arg3) : FVec Ideal S16384x512 .bf16) (ix2 (place b t) (slot h κ)) := by
  simp only [entryContents, afterL_cons, afterL_nil]
  after_reads_simp
  exact split_at (m ((c.tc : Thread nD τ).loc main_arg3)) t b h κ

theorem entry_b : lanes (entryContents preI m c (Proc.devRef .tc main_v20_5)) t b h κ
    = (m ((c.tc : Thread nD τ).loc main_arg4) : FVec Ideal S16384x512 .bf16) (ix2 (place b t) (slot h κ)) := by
  simp only [entryContents, afterL_cons, afterL_nil]
  after_reads_simp
  exact split_at (m ((c.tc : Thread nD τ).loc main_arg4)) t b h κ

theorem entry_state : entry (entryContents preI m c (Proc.devRef .tc main_v20_7)) b h ν κ = 0 := by
  simp only [entryContents, afterL_cons, afterL_nil]
  after_reads_simp
  exact zeros_at b h ν κ

end

/-! ## The reference's results -/

/-- A head's lanes normed to mean zero and variance one, at a lane. -/
def meanOf (y : Fin 64 → EReal) : EReal := Ideal.div (∑ i : Fin 64, y i) (Ideal.ofBits .f32 0x42800000#32)
def normed (y : Fin 64 → EReal) (ν : Fin 64) : EReal :=
  (y ν - meanOf y) * Ideal.rsqrt (meanOf (fun i => (y i - meanOf y) * (y i - meanOf y)) + Ideal.ofBits .f32 0x3A27C5AC#32)

theorem branch_at (V : Valuation τ sig (Elt Ideal)) (b : Fin 2) (t : Fin 8192) (h : Fin 8) (ν : Fin 64) (z g be bo ga : EReal)
    (hg : (V (Proc.devRef .tc main_arg10) : FVec Ideal S512 .f32) (ix1 (slot h ν)) = g)
    (hbe : (V (Proc.devRef .tc main_arg11) : FVec Ideal S512 .f32) (ix1 (slot h ν)) = be)
    (hbo : (V (Proc.devRef .tc main_arg7) : FVec Ideal S16384x512 .f32) (ix2 (place b t) (slot h ν)) = bo)
    (hga : (V (Proc.devRef .tc main_arg6) : FVec Ideal S16384x512 .f32) (ix2 (place b t) (slot h ν)) = ga)
    (hz : normed (lanes (V (Proc.devRef .tc main_v20_8)) t b h) ν = z) :
    (out_main_v50 V : FVec Ideal S16384x512 .f32) (ix2 (place b t) (slot h ν)) = (z * g + be + bo) * ga := by
  subst hg hbe hbo hga hz
  unfold out_main_v50
  generalize (V (Proc.devRef .tc main_arg10) : FVec Ideal S512 .f32) = x10
  generalize (V (Proc.devRef .tc main_arg11) : FVec Ideal S512 .f32) = x11
  generalize (V (Proc.devRef .tc main_arg7) : FVec Ideal S16384x512 .f32) = x7
  generalize (V (Proc.devRef .tc main_arg6) : FVec Ideal S16384x512 .f32) = x6
  generalize (V (Proc.devRef .tc main_v20_8) : FVec Ideal S8192x2x8x64 .f32) = y
  clean_types
  pointwise [normed, meanOf, lanes, place, slot]

end Cert.Proof.Rwkv

end
-- ==== Proof.RwkvSeqs.lean ====
/-
  The sixteen sequences the arrays hold: batch `b`'s head `h`, 8192 frames each.
-/
module

public import proofs.«01_k».proof.Proof.RwkvMath
public import proofs.«01_k».proof.Proof.RwkvScan

@[expose] public section

noncomputable section

namespace Cert.Proof.Rwkv

open Idealize.ShloMosaic

/-- Frame `n` of batch `b`. -/
def at_ (b : Fin 2) (n : ℕ) : Fin 16384 := place b ⟨n % 8192, Nat.mod_lt _ (by decide)⟩

theorem at_val (b : Fin 2) (t : Fin 8192) : at_ b t.val = place b t :=
  congrArg (place b) (Fin.ext (Nat.mod_eq_of_lt t.isLt))

/-- The operands, frame by frame. -/
structure Operands where
  r : Fin 16384 → Fin 512 → EReal
  k : Fin 16384 → Fin 512 → EReal
  v : Fin 16384 → Fin 512 → EReal
  a : Fin 16384 → Fin 512 → EReal
  b : Fin 16384 → Fin 512 → EReal
  w : Fin 16384 → Fin 512 → EReal

/-- Every operand is a real number. -/
structure Operands.Real (x : Operands) : Prop where
  r : ∀ i n, x.r i n ≠ ⊤ ∧ x.r i n ≠ ⊥
  k : ∀ i n, x.k i n ≠ ⊤ ∧ x.k i n ≠ ⊥
  v : ∀ i n, x.v i n ≠ ⊤ ∧ x.v i n ≠ ⊥
  a : ∀ i n, x.a i n ≠ ⊤ ∧ x.a i n ≠ ⊥
  b : ∀ i n, x.b i n ≠ ⊤ ∧ x.b i n ≠ ⊥
  w : ∀ i n, x.w i n ≠ ⊤ ∧ x.w i n ≠ ⊥

/-- Batch `b`'s head `h`. -/
def Operands.seq (x : Operands) (b : Fin 2) (h : Fin 8) : Seq where
  r n κ := (x.r (at_ b n) (slot h κ)).toReal
  k n κ := (x.k (at_ b n) (slot h κ)).toReal
  v n κ := (x.v (at_ b n) (slot h κ)).toReal
  a n κ := (x.a (at_ b n) (slot h κ)).toReal
  b n κ := (x.b (at_ b n) (slot h κ)).toReal
  w n κ := (x.w (at_ b n) (slot h κ)).toReal

theorem toReal_eq {x : EReal} (h : x ≠ ⊤ ∧ x ≠ ⊥) : x = ((x.toReal : ℝ) : EReal) := (EReal.coe_toReal h.1 h.2).symm

def batchOf (i : Fin 16384) : Fin 2 := ⟨i.val / 8192, by omega⟩
def headOf (l : Fin 512) : Fin 8 := ⟨l.val / 64, by omega⟩
def laneOf (l : Fin 512) : Fin 64 := ⟨l.val % 64, by omega⟩

/-- The branch's output: the recurrence's frames, normed head by head, with the bonus, gated. -/
def branch (x : Operands) (g be : Fin 512 → EReal) (bonus gate : Fin 16384 → Fin 512 → EReal) (i : Fin 16384) (l : Fin 512) : EReal :=
  (normed (fun ν => (((x.seq (batchOf i) (headOf l)).out (i.val % 8192) ν : ℝ) : EReal)) (laneOf l) * g l + be l + bonus i l) * gate i l

end Cert.Proof.Rwkv

end
-- ==== Proof.RwkvOuts.lean ====
/-
  The reference's results: the recurrence's frames normed and gated, the gate columns, and the cast weights.
-/
module

public import proofs.«01_k».proof.Proof.RwkvScan
public import proofs.«01_k».proof.Proof.RwkvSeqs

@[expose] public section

set_option maxRecDepth 16384

noncomputable section

namespace Cert.Proof.Rwkv

open Idealize.ShloMosaic Idealize.ShloMosaic.TcCoe Idealize.SL.Sem
open Idealize.ShloMosaic.StableHlo
open Cert.ReferenceIdeal Cert.ReferenceIdeal.Gen Cert.ReferenceIdeal.Value

theorem place_of (i : Fin 16384) : ∃ b t, i = place b t :=
  ⟨⟨i.val / 8192, by omega⟩, ⟨i.val % 8192, by omega⟩, Fin.ext (by simp only [place]; omega)⟩

theorem slot_of (l : Fin 512) : ∃ h ν, l = slot h ν :=
  ⟨⟨l.val / 64, by omega⟩, ⟨l.val % 64, by omega⟩, Fin.ext (by simp only [slot]; omega)⟩

theorem branch_place (x : Operands) (g be : Fin 512 → EReal) (bonus gate : Fin 16384 → Fin 512 → EReal) (b : Fin 2) (t : Fin 8192) (h : Fin 8) (ν : Fin 64) :
    branch x g be bonus gate (place b t) (slot h ν)
      = (normed (fun i => (((x.seq b h).out t.val i : ℝ) : EReal)) ν * g (slot h ν) + be (slot h ν) + bonus (place b t) (slot h ν)) * gate (place b t) (slot h ν) := by
  have hb : batchOf (place b t) = b := Fin.ext (by simp only [batchOf, place]; omega)
  have hh : headOf (slot h ν) = h := Fin.ext (by simp only [headOf, slot]; omega)
  have hl : laneOf (slot h ν) = ν := Fin.ext (by simp only [laneOf, slot]; omega)
  have ht : (place b t).val % 8192 = t.val := by simp only [place]; omega
  unfold branch
  rw [hb, hh, hl, ht]

/-- The branch's output, from the frames the scan has left. -/
theorem branch_eq (V : Valuation τ sig (Elt Ideal)) (x : Operands)
    (hs : ∀ t : Fin 8192, ∀ b h ν, lanes (V (Proc.devRef .tc main_v20_8)) t b h ν = (((x.seq b h).out t.val ν : ℝ) : EReal)) (j : S16384x512.Idx) :
    (out_main_v50 V : FVec Ideal S16384x512 .f32) j = branch x
      (fun l => (V (Proc.devRef .tc main_arg10) : FVec Ideal S512 .f32) (ix1 l)) (fun l => (V (Proc.devRef .tc main_arg11) : FVec Ideal S512 .f32) (ix1 l))
      (fun i l => (V (Proc.devRef .tc main_arg7) : FVec Ideal S16384x512 .f32) (ix2 i l))
      (fun i l => (V (Proc.devRef .tc main_arg6) : FVec Ideal S16384x512 .f32) (ix2 i l)) (j 0) (j 1) := by
  idx_vars j
  obtain ⟨b, t, rfl⟩ := place_of j0
  obtain ⟨h, ν, rfl⟩ := slot_of j1
  refine (branch_at V b t h ν _ _ _ _ _ rfl rfl rfl rfl (congrArg (fun y => normed y ν) (funext (hs t b h)))).trans ?_
  exact (branch_place x (fun l => (V (Proc.devRef .tc main_arg10) : FVec Ideal S512 .f32) (ix1 l)) (fun l => (V (Proc.devRef .tc main_arg11) : FVec Ideal S512 .f32) (ix1 l))
    (fun i l => (V (Proc.devRef .tc main_arg7) : FVec Ideal S16384x512 .f32) (ix2 i l))
    (fun i l => (V (Proc.devRef .tc main_arg6) : FVec Ideal S16384x512 .f32) (ix2 i l)) b t h ν).symm

/-- The gate columns. -/
theorem gate_eq (V : Valuation τ sig (Elt Ideal)) (j : S16384x2048.Idx) :
    (out_main_v52 V : FVec Ideal S16384x2048 .bf16) j = ∑ k : Fin 1024, (HMul.hMul : EReal → EReal → EReal)
      ((V (Proc.devRef .tc main_arg8) : FVec Ideal S16384x1024 .bf16) (ix2 (j 0) k)) ((V (Proc.devRef .tc main_arg9) : FVec Ideal S1024x2048 .bf16) (ix2 k (j 1))) := by
  unfold out_main_v52
  generalize (V (Proc.devRef .tc main_arg8) : FVec Ideal S16384x1024 .bf16) = x8
  generalize (V (Proc.devRef .tc main_arg9) : FVec Ideal S1024x2048 .bf16) = x9
  clean_types
  idx_vars j
  pointwise []

variable (m : (ℓ : Loc nD τ sig) → Buf (Elt Ideal) ℓ) (c : Dev nD) (x : Operands)

/-- The reference's arguments hold the operands. -/
structure Holds : Prop where
  r : ∀ i n, (m ((c.tc : Thread nD τ).loc main_arg0) : FVec Ideal S16384x512 .bf16) (ix2 i n) = x.r i n
  k : ∀ i n, (m ((c.tc : Thread nD τ).loc main_arg1) : FVec Ideal S16384x512 .bf16) (ix2 i n) = x.k i n
  v : ∀ i n, (m ((c.tc : Thread nD τ).loc main_arg2) : FVec Ideal S16384x512 .bf16) (ix2 i n) = x.v i n
  a : ∀ i n, (m ((c.tc : Thread nD τ).loc main_arg3) : FVec Ideal S16384x512 .bf16) (ix2 i n) = x.a i n
  b : ∀ i n, (m ((c.tc : Thread nD τ).loc main_arg4) : FVec Ideal S16384x512 .bf16) (ix2 i n) = x.b i n
  w : ∀ i n, (m ((c.tc : Thread nD τ).loc main_arg5) : FVec Ideal S16384x512 .f32) (ix2 i n) = x.w i n

theorem Holds.scans (h : Holds m c x) (hx : x.Real) : Scans x.seq (entryContents preI m c) where
  r t b hh κ := by rw [entry_r, h.r, ← at_val]; exact toReal_eq (hx.r _ _)
  w t b hh κ := by rw [entry_w, h.w, ← at_val, toReal_eq (hx.w _ _)]; exact Ideal.exp_coe _
  k t b hh κ := by rw [entry_k, h.k, ← at_val]; exact toReal_eq (hx.k _ _)
  v t b hh κ := by rw [entry_v, h.v, ← at_val]; exact toReal_eq (hx.v _ _)
  a t b hh κ := by rw [entry_a, h.a, ← at_val]; exact toReal_eq (hx.a _ _)
  b t b' hh κ := by rw [entry_b, h.b, ← at_val]; exact toReal_eq (hx.b _ _)

/-- The contents after the scan's last frame. -/
structure After (V : Valuation τ sig (Elt Ideal)) : Prop where
  frames : ∀ t : Fin 8192, ∀ b h ν, lanes (V (Proc.devRef .tc main_v20_8)) t b h ν = (((x.seq b h).out t.val ν : ℝ) : EReal)
  a6 : V (Proc.devRef .tc main_arg6) = m ((c.tc : Thread nD τ).loc main_arg6)
  a7 : V (Proc.devRef .tc main_arg7) = m ((c.tc : Thread nD τ).loc main_arg7)
  a8 : V (Proc.devRef .tc main_arg8) = m ((c.tc : Thread nD τ).loc main_arg8)
  a9 : V (Proc.devRef .tc main_arg9) = m ((c.tc : Thread nD τ).loc main_arg9)
  a10 : V (Proc.devRef .tc main_arg10) = m ((c.tc : Thread nD τ).loc main_arg10)
  a11 : V (Proc.devRef .tc main_arg11) = m ((c.tc : Thread nD τ).loc main_arg11)
  a12 : V (Proc.devRef .tc main_arg12) = m ((c.tc : Thread nD τ).loc main_arg12)
  a13 : V (Proc.devRef .tc main_arg13) = m ((c.tc : Thread nD τ).loc main_arg13)
  a14 : V (Proc.devRef .tc main_arg14) = m ((c.tc : Thread nD τ).loc main_arg14)
  a15 : V (Proc.devRef .tc main_arg15) = m ((c.tc : Thread nD τ).loc main_arg15)

theorem Holds.after (h : Holds m c x) (hx : x.Real) : After m c x (STEP^[8192] (entryContents preI m c)) where
  frames t b hh ν := (scan x.seq _ (h.scans m c x hx) (ctr_entry m c) (fun _ _ _ _ => entry_state m c _ _ _ _) 8192 le_rfl).2.2.2 t t.isLt b hh ν
  a6 := iter_main_arg6 m c 8192
  a7 := iter_main_arg7 m c 8192
  a8 := iter_main_arg8 m c 8192
  a9 := iter_main_arg9 m c 8192
  a10 := iter_main_arg10 m c 8192
  a11 := iter_main_arg11 m c 8192
  a12 := iter_main_arg12 m c 8192
  a13 := iter_main_arg13 m c 8192
  a14 := iter_main_arg14 m c 8192
  a15 := iter_main_arg15 m c 8192

theorem cast12 (V : Valuation τ sig (Elt Ideal)) : (out_main_v53 V : S1024x1024.Idx → EReal) = V (Proc.devRef .tc main_arg12) := rfl
theorem cast13 (V : Valuation τ sig (Elt Ideal)) : (out_main_v54 V : S1024x1024.Idx → EReal) = V (Proc.devRef .tc main_arg13) := rfl
theorem cast14 (V : Valuation τ sig (Elt Ideal)) : (out_main_v55 V : S1024x4096.Idx → EReal) = V (Proc.devRef .tc main_arg14) := rfl
theorem cast15 (V : Valuation τ sig (Elt Ideal)) : (out_main_v56 V : S4096x1024.Idx → EReal) = V (Proc.devRef .tc main_arg15) := rfl

end Cert.Proof.Rwkv

end
-- ==== Proof.RwkvTile.lean ====
/-
  One tile of 256 frames: four chunks of four pairs, the state carried from chunk to chunk.
-/
module

public import proofs.«01_k».proof.Proof.RwkvItem

@[expose] public section

set_option maxRecDepth 16384

noncomputable section

namespace Cert.Proof.Rwkv

open Idealize.ShloMosaic Idealize.ShloMosaic.TcCoe Idealize.SL.Sem
open Cert.KernelIdeal Cert.KernelIdeal.Gen

variable {F : FTy → Type} [FloatOps F]

theorem inb_item (c j : Fin 4) (a : Fin S256x512.rank) :
    (![64 * c.val, 128 * j.val] : Fin 2 → ℕ) a + (![64, 128] : Fin 2 → ℕ) a ≤ S256x512.size a := by
  revert c j a; decide

theorem inb_decay (c j : Fin 4) (a : Fin S4x1x512.rank) :
    (![c.val, 0, 128 * j.val] : Fin 3 → ℕ) a + (![1, 1, 128] : Fin 3 → ℕ) a ≤ S4x1x512.size a := by
  revert c j a; decide

theorem inb_rows (c : Fin 4) (a : Fin S256x512.rank) :
    (![64 * c.val, 0] : Fin 2 → ℕ) a + (![64, 512] : Fin 2 → ℕ) a ≤ S256x512.size a := by
  revert c a; decide

/-- Chunk `c` of pair `j`. -/
def item (x : Vec F S256x512 .f32) (c j : Fin 4) : FVec F S64x128 .f32 :=
  View.ld x (Rect.unit ![64 * c.val, 128 * j.val] ![64, 128] (inb_item c j))

def rows (x : Vec F S256x512 .f32) (c : Fin 4) : FVec F S64x512 .f32 :=
  View.ld x (Rect.unit ![64 * c.val, 0] ![64, 512] (inb_rows c))

/-- What a tile's operands are. -/
structure Tile (F : FTy → Type) where
  decay : Vec F S4x1x512 .f32
  a : Vec F S256x512 .f32
  r : Vec F S256x512 .f32
  b : Vec F S256x512 .f32
  k : Vec F S256x512 .f32
  bh : Vec F S256x512 .f32
  kh : Vec F S256x512 .f32
  v : Vec F S256x512 .f32

namespace Tile

variable (x : Tile F)

def ops (c j : Fin 4) : Ops F :=
  ⟨item x.a c j, item x.r c j, item x.b c j, item x.k c j, item x.bh c j, item x.kh c j, item x.v c j,
   shapeCast S1x128 (View.ld x.decay (Rect.unit ![c.val, 0, 128 * j.val] ![1, 1, 128] (inb_decay c j))) shapeCasts_S1x1x128_S1x128⟩

/-- A state as it is stored. -/
def store (h : FVec F S64x128 .f32) : FVec F S1x64x128 .f32 := shapeCast S1x64x128 h shapeCasts_S64x128_S1x64x128

def load (h : FVec F S1x64x128 .f32) : FVec F S64x128 .f32 := shapeCast S64x128 h shapeCasts_S1x64x128_S64x128

/-- Pair `j`'s state before chunk `c`. -/
def state (h : Fin 4 → FVec F S1x64x128 .f32) : ℕ → Fin 4 → FVec F S1x64x128 .f32
  | 0 => h
  | c + 1 => fun j => store ((x.ops ⟨c % 4, Nat.mod_lt _ (by decide)⟩ j).h' (load (state h c j)))

/-- Chunk `c`'s frames, all pairs side by side. -/
def frames (h : Fin 4 → FVec F S1x64x128 .f32) (c : Fin 4) : FVec F S64x512 .f32 :=
  pairs fun j => (x.ops c j).y (load (x.state h c.val j))

end Tile

theorem inb_state (j : Fin 4) (a : Fin S4x64x128.rank) :
    (![j.val, 0, 0] : Fin 3 → ℕ) a + (![1, 64, 128] : Fin 3 → ℕ) a ≤ S4x64x128.size a := by
  revert j a; decide

/-- Pair `j` of a stored state. -/
def pair (h : Vec F S4x64x128 .f32) (j : Fin 4) : FVec F S1x64x128 .f32 :=
  View.ld h (Rect.unit ![j.val, 0, 0] ![1, 64, 128] (inb_state j))

end Cert.Proof.Rwkv
-- ==== Proof.RwkvLoad.lean ====
/-
  What a step stores for the next one, chunk by chunk, and how a tile is laid down: rows of 64 frames, columns of 256 lanes,
  pairs of heads.
-/
module

public import proofs.«01_k».proof.Proof.RwkvTile
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.Rwkv

open Idealize.ShloMosaic Idealize.ShloMosaic.TcCoe Idealize.SL.Sem
open Cert.KernelIdeal Cert.KernelIdeal.Gen

variable {F : FTy → Type} [FloatOps F]

def rows16 (x : Vec F S256x512 .bf16) (c : Fin 4) : FVec F S64x512 .bf16 :=
  View.ld x (Rect.unit ![64 * c.val, 0] ![64, 512] (inb_rows c))

def same (x : FVec F S64x512 .f32) : FVec F S64x512 .f32 := shapeCast S64x512 x shapeCasts_S64x512_S64x512

def widen (x : FVec F S64x512 .bf16) : FVec F S64x512 .f32 := extf .f32 x bitsLt_bf16_f32

/-- The decay's exponents summed along the chunk, in two parts. -/
def total (w : FVec F S64x512 .f32) (tri : FVec F S64x64 .bf16) : FVec F S64x512 .f32 :=
  addf (matmul dot_S64x64_S64x512_S64x512_1_0_0_1_n_n none tri (truncf .bf16 w bitsLt_bf16_f32) (constant S64x512 .f32 0x00000000#32))
    (matmul dot_S64x64_S64x512_S64x512_1_0_0_1_n_n none tri
      (truncf .bf16 (subf w (widen (truncf .bf16 w bitsLt_bf16_f32))) bitsLt_bf16_f32) (constant S64x512 .f32 0x00000000#32))

def last (w : FVec F S64x512 .f32) (tri : FVec F S64x64 .bf16) : FVec F S1x512 .f32 :=
  extractStridedSlice S1x512 ![63, 0] (total w tri) slices_S64x512_o63_0_S1x512

def opA (x : FVec F S64x512 .bf16) (w : FVec F S64x512 .f32) (tri : FVec F S64x64 .bf16) : FVec F S64x512 .f32 :=
  same (mulf (widen x) (exp (subf (total w tri) w)))

def opR (x : FVec F S64x512 .bf16) (w : FVec F S64x512 .f32) (tri : FVec F S64x64 .bf16) : FVec F S64x512 .f32 :=
  same (mulf (widen x) (exp (total w tri)))

def opB (x : FVec F S64x512 .bf16) (w : FVec F S64x512 .f32) (tri : FVec F S64x64 .bf16) : FVec F S64x512 .f32 :=
  same (mulf (widen x) (exp (subf (broadcast S64x512 (Scalar.ofBits .f32 0x00000000#32)) (total w tri))))

def opH (x : FVec F S64x512 .bf16) (w : FVec F S64x512 .f32) (tri : FVec F S64x64 .bf16) : FVec F S64x512 .f32 :=
  same (mulf (widen x) (exp (subf (broadcastTo S64x512 (last w tri) broadcasts_S1x512_S64x512) (total w tri))))

def opV (x : FVec F S64x512 .bf16) : FVec F S64x512 .f32 := same (widen x)

def opD (w : FVec F S64x512 .f32) (tri : FVec F S64x64 .bf16) : FVec F S1x1x512 .f32 :=
  shapeCast S1x1x512 (exp (last w tri)) shapeCasts_S1x512_S1x1x512

/-- Four chunks of rows. -/
def fourRows (f : Fin 4 → FVec F S64x512 .f32) : List (View.Piece (Elt F) S256x512 .f32) :=
  [⟨Rect.unit ![192, 0] ![64, 512] inb_S256x512_S64x512_192_0, f 3⟩,
   ⟨Rect.unit ![128, 0] ![64, 512] inb_S256x512_S64x512_128_0, f 2⟩,
   ⟨Rect.unit ![64, 0] ![64, 512] inb_S256x512_S64x512_64_0, f 1⟩,
   ⟨Rect.unit ![0, 0] ![64, 512] inb_S256x512_S64x512_0_0, f 0⟩]

def fourDecays (f : Fin 4 → FVec F S1x1x512 .f32) : List (View.Piece (Elt F) S4x1x512 .f32) :=
  [⟨Rect.unit ![3, 0, 0] ![1, 1, 512] inb_S4x1x512_S1x1x512_3_0_0, f 3⟩,
   ⟨Rect.unit ![2, 0, 0] ![1, 1, 512] inb_S4x1x512_S1x1x512_2_0_0, f 2⟩,
   ⟨Rect.unit ![1, 0, 0] ![1, 1, 512] inb_S4x1x512_S1x1x512_1_0_0, f 1⟩,
   ⟨Rect.unit ![0, 0, 0] ![1, 1, 512] inb_S4x1x512_S1x1x512_0_0_0, f 0⟩]

def fourPairs (f : Fin 4 → FVec F S1x64x128 .f32) : List (View.Piece (Elt F) S4x64x128 .f32) :=
  [⟨Rect.unit ![3, 0, 0] ![1, 64, 128] inb_S4x64x128_S1x64x128_3_0_0, f 3⟩,
   ⟨Rect.unit ![2, 0, 0] ![1, 64, 128] inb_S4x64x128_S1x64x128_2_0_0, f 2⟩,
   ⟨Rect.unit ![1, 0, 0] ![1, 64, 128] inb_S4x64x128_S1x64x128_1_0_0, f 1⟩,
   ⟨Rect.unit ![0, 0, 0] ![1, 64, 128] inb_S4x64x128_S1x64x128_0_0_0, f 0⟩]

def glued (f : Fin 4 → FVec F S64x512 .f32) : Vec F S256x512 .f32 := fun y =>
  f ⟨(y 0).val / 64, by have : (y 0).val < 256 := (y 0).isLt; omega⟩ (ix2 ⟨(y 0).val % 64, by omega⟩ (y 1))

def gluedDecays (f : Fin 4 → FVec F S1x1x512 .f32) : Vec F S4x1x512 .f32 := fun y => f (y 0) (ix3 0 0 (y 2))

def gluedPairs (f : Fin 4 → FVec F S1x64x128 .f32) : Vec F S4x64x128 .f32 := fun y => f (y 0) (ix3 0 (y 1) (y 2))

theorem glued_at (f : Fin 4 → FVec F S64x512 .f32) (c : Fin 4) (t : Fin 64) (l : Fin 512) (h : 64 * c.val + t.val < 256) :
    glued f (ix2 ⟨64 * c.val + t.val, h⟩ l) = f c (ix2 t l) := by
  have h1 : (⟨(64 * c.val + t.val) / 64, by omega⟩ : Fin 4) = c := Fin.ext (by simp only []; omega)
  have h2 : (⟨(64 * c.val + t.val) % 64, by omega⟩ : Fin 64) = t := Fin.ext (by simp only []; omega)
  show f ⟨(64 * c.val + t.val) / 64, _⟩ (ix2 ⟨(64 * c.val + t.val) % 64, _⟩ l) = _
  rw [h1, h2]

/-- An index of an array from its coordinates. -/
theorem ix2_of {n k : ℕ} (y : (⟨2, ![n, k]⟩ : Shape).Idx) (a : Fin n) (b : Fin k) (h0 : (y 0).val = a.val) (h1 : (y 1).val = b.val) :
    y = ix2 a b := by
  funext i
  match i with
  | ⟨0, _⟩ => exact Fin.ext h0
  | ⟨1, _⟩ => exact Fin.ext h1

theorem canon_rows (f : Fin 4 → FVec F S64x512 .f32) (L : List (View.Piece (Elt F) S256x512 .f32)) :
    View.canon (fourRows f ++ L) = glued f := by
  funext y
  refine View.canon_append_of_pieces (glued f) L (fourRows f) ?_ y ?_
  · have key : ∀ (c : Fin 4) (x : (Rect.unit (s := S256x512) ![64 * c.val, 0] ![64, 512] (inb_rows c)).shape.Idx),
        f c x = glued f ((Rect.unit (s := S256x512) ![64 * c.val, 0] ![64, 512] (inb_rows c)).emb x) := by
      intro c x
      have e : (Rect.unit (s := S256x512) ![64 * c.val, 0] ![64, 512] (inb_rows c)).emb x
          = ix2 ⟨64 * c.val + (x 0).val, by have : (x 0).val < 64 := (x 0).isLt; omega⟩ (x 1) :=
        ix2_of _ _ _ (Rect.idx_unit_val _ _ _ x 0) ((Rect.idx_unit_val _ _ _ x 1).trans (Nat.zero_add _))
      rw [e]
      refine Eq.trans ?_ (glued_at f c (x 0) (x 1) _).symm
      exact congrArg (f c) (ix2_of x (x 0) (x 1) rfl rfl)
    intro p hp x
    simp only [fourRows, List.mem_cons, List.not_mem_nil, or_false] at hp
    rcases hp with rfl | rfl | rfl | rfl
    · exact key 3 x
    · exact key 2 x
    · exact key 1 x
    · exact key 0 x
  · exact View.cover_of_tiled_head _ _ _ (by rfl) y

theorem ix3_of {n k l : ℕ} (y : (⟨3, ![n, k, l]⟩ : Shape).Idx) (a : Fin n) (b : Fin k) (d : Fin l) (h0 : (y 0).val = a.val)
    (h1 : (y 1).val = b.val) (h2 : (y 2).val = d.val) : y = ix3 a b d := by
  funext i
  match i with
  | ⟨0, _⟩ => exact Fin.ext h0
  | ⟨1, _⟩ => exact Fin.ext h1
  | ⟨2, _⟩ => exact Fin.ext h2

theorem inb_chunk (c : Fin 4) (a : Fin S4x1x512.rank) :
    (![c.val, 0, 0] : Fin 3 → ℕ) a + (![1, 1, 512] : Fin 3 → ℕ) a ≤ S4x1x512.size a := by
  revert c a; decide

theorem canon_decays (f : Fin 4 → FVec F S1x1x512 .f32) (L : List (View.Piece (Elt F) S4x1x512 .f32)) :
    View.canon (fourDecays f ++ L) = gluedDecays f := by
  funext y
  refine View.canon_append_of_pieces (gluedDecays f) L (fourDecays f) ?_ y ?_
  · have key : ∀ (c : Fin 4) (x : (Rect.unit (s := S4x1x512) ![c.val, 0, 0] ![1, 1, 512] (inb_chunk c)).shape.Idx),
        f c x = gluedDecays f ((Rect.unit (s := S4x1x512) ![c.val, 0, 0] ![1, 1, 512] (inb_chunk c)).emb x) := by
      intro c x
      have z0 : (x 0).val = 0 := Nat.lt_one_iff.1 (x 0).isLt
      have z1 : (x 1).val = 0 := Nat.lt_one_iff.1 (x 1).isLt
      have e : (Rect.unit (s := S4x1x512) ![c.val, 0, 0] ![1, 1, 512] (inb_chunk c)).emb x = ix3 c 0 (x 2) :=
        ix3_of _ _ _ _ ((Rect.idx_unit_val _ _ _ x 0).trans (by rw [z0]; rfl)) ((Rect.idx_unit_val _ _ _ x 1).trans (by rw [z1]; rfl))
          ((Rect.idx_unit_val _ _ _ x 2).trans (Nat.zero_add _))
      rw [e]
      exact congrArg (f c) (ix3_of x 0 0 (x 2) z0 z1 rfl)
    intro p hp x
    simp only [fourDecays, List.mem_cons, List.not_mem_nil, or_false] at hp
    rcases hp with rfl | rfl | rfl | rfl
    · exact key 3 x
    · exact key 2 x
    · exact key 1 x
    · exact key 0 x
  · exact View.cover_of_tiled_head _ _ _ (by rfl) y

theorem canon_pairs (f : Fin 4 → FVec F S1x64x128 .f32) (L : List (View.Piece (Elt F) S4x64x128 .f32)) :
    View.canon (fourPairs f ++ L) = gluedPairs f := by
  funext y
  refine View.canon_append_of_pieces (gluedPairs f) L (fourPairs f) ?_ y ?_
  · have key : ∀ (c : Fin 4) (x : (Rect.unit (s := S4x64x128) ![c.val, 0, 0] ![1, 64, 128] (inb_state c)).shape.Idx),
        f c x = gluedPairs f ((Rect.unit (s := S4x64x128) ![c.val, 0, 0] ![1, 64, 128] (inb_state c)).emb x) := by
      intro c x
      have z0 : (x 0).val = 0 := Nat.lt_one_iff.1 (x 0).isLt
      have e : (Rect.unit (s := S4x64x128) ![c.val, 0, 0] ![1, 64, 128] (inb_state c)).emb x = ix3 c (x 1) (x 2) :=
        ix3_of _ _ _ _ ((Rect.idx_unit_val _ _ _ x 0).trans (by rw [z0]; rfl)) ((Rect.idx_unit_val _ _ _ x 1).trans (Nat.zero_add _))
          ((Rect.idx_unit_val _ _ _ x 2).trans (Nat.zero_add _))
      rw [e]
      exact congrArg (f c) (ix3_of x 0 (x 1) (x 2) z0 rfl rfl)
    intro p hp x
    simp only [fourPairs, List.mem_cons, List.not_mem_nil, or_false] at hp
    rcases hp with rfl | rfl | rfl | rfl
    · exact key 3 x
    · exact key 2 x
    · exact key 1 x
    · exact key 0 x
  · exact View.cover_of_tiled_head _ _ _ (by rfl) y

end Cert.Proof.Rwkv
-- ==== Proof.RwkvStored.lean ====
/-
  The stored operands over the reals: a tile loaded at frame `n` holds the chunk operands of its eight sequences.
-/
module

public import proofs.«01_k».proof.Proof.RwkvChunk
public import proofs.«01_k».proof.Proof.RwkvLoad

@[expose] public section

set_option maxRecDepth 16384

noncomputable section

namespace Cert.Proof.Rwkv

open Idealize.ShloMosaic Idealize.ShloMosaic.TcCoe Idealize.SL.Sem
open Cert.KernelIdeal Cert.KernelIdeal.Gen

/-- Lane `n` of pair `j`'s head `p`. -/
def chan (j : Fin 4) (p : Fin 2) (n : Fin 64) : Fin 512 := ⟨128 * j.val + (64 * p.val + n.val), by omega⟩

/-- Frame `t` of chunk `c`. -/
def frame (c : Fin 4) (t : Fin 64) : Fin 256 := ⟨64 * c.val + t.val, by omega⟩

theorem item_at (x : Vec Ideal S256x512 .f32) (c j : Fin 4) (t : Fin 64) (p : Fin 2) (n : Fin 64) :
    item x c j (ix2 t (ln p n)) = x (ix2 (frame c t) (chan j p n)) := by
  show x _ = _
  exact congrArg x (ix2_of _ _ _ (Rect.idx_unit_val _ _ _ _ 0) (Rect.idx_unit_val _ _ _ _ 1))

theorem rows_at (x : Vec Ideal S256x512 .f32) (c : Fin 4) (t : Fin 64) (l : Fin 512) : rows x c (ix2 t l) = x (ix2 (frame c t) l) := by
  show x _ = _
  exact congrArg x (ix2_of _ _ _ (Rect.idx_unit_val _ _ _ _ 0) ((Rect.idx_unit_val _ _ _ _ 1).trans (Nat.zero_add _)))

theorem rows16_at (x : Vec Ideal S256x512 .bf16) (c : Fin 4) (t : Fin 64) (l : Fin 512) : rows16 x c (ix2 t l) = x (ix2 (frame c t) l) := by
  show x _ = _
  exact congrArg x (ix2_of _ _ _ (Rect.idx_unit_val _ _ _ _ 0) ((Rect.idx_unit_val _ _ _ _ 1).trans (Nat.zero_add _)))

theorem item_glued (f : Fin 4 → FVec Ideal S64x512 .f32) (c j : Fin 4) (t : Fin 64) (p : Fin 2) (n : Fin 64) :
    item (glued f) c j (ix2 t (ln p n)) = f c (ix2 t (chan j p n)) := by
  rw [item_at]; exact glued_at f c t _ _

/-- The lower triangle of ones. -/
def tri : Vec Ideal S64x64 .bf16 := fun y => if (y 1).val ≤ (y 0).val then 1 else 0

theorem sum_range_fin (f : ℕ → ℝ) (t : Fin 64) : ∑ s : Fin 64, (if s.val ≤ t.val then f s.val else 0) = ∑ s ∈ Finset.range (t.val + 1), f s := by
  rw [Fin.sum_univ_eq_sum_range (fun s => if s ≤ t.val then f s else 0) 64, ← Finset.sum_filter]
  congr 1
  ext s
  simp only [Finset.mem_filter, Finset.mem_range]
  omega

theorem total_at (w : FVec Ideal S64x512 .f32) (l : Fin 512) (f : ℕ → ℝ) (h : ∀ s : Fin 64, w (ix2 s l) = ((f s.val : ℝ) : EReal))
    (t : Fin 64) : total w tri (ix2 t l) = ((∑ s ∈ Finset.range (t.val + 1), f s : ℝ) : EReal) := by
  have e : total w tri (ix2 t l) = (∑ s : Fin 64, tri (ix2 t s) * w (ix2 s l)) + ∑ s : Fin 64, tri (ix2 t s) * (w (ix2 s l) - w (ix2 s l)) := by
    generalize tri = y
    pointwise [total, widen]
  rw [e, ← sum_range_fin f t, coe_sum]
  have z : ∑ s : Fin 64, tri (ix2 t s) * (w (ix2 s l) - w (ix2 s l)) = 0 := by
    refine Finset.sum_eq_zero fun s _ => ?_
    rw [h s, ← EReal.coe_sub, sub_self, EReal.coe_zero, mul_zero]
  rw [z, add_zero]
  refine Finset.sum_congr rfl fun s _ => ?_
  rw [h s]
  show (if s.val ≤ t.val then (1 : EReal) else 0) * _ = _
  by_cases hs : s.val ≤ t.val
  · rw [if_pos hs, if_pos hs, one_mul]
  · rw [if_neg hs, if_neg hs, zero_mul, EReal.coe_zero]

section ops

variable (x : FVec Ideal S64x512 .bf16) (w : FVec Ideal S64x512 .f32) (l : Fin 512) (f : ℕ → ℝ) (g : ℝ) (t : Fin 64)
  (h : ∀ s : Fin 64, w (ix2 s l) = ((f s.val : ℝ) : EReal)) (hx : x (ix2 t l) = ((g : ℝ) : EReal))

include h

theorem last_at : last w tri (ix2 0 l) = ((∑ s ∈ Finset.range 64, f s : ℝ) : EReal) := by
  have k : last w tri (ix2 0 l) = total w tri (ix2 63 l) := by
    generalize hy : total w tri = y
    pointwise [last, hy]
  rw [k]
  exact total_at w l f h 63

include hx

theorem opA_at : opA x w tri (ix2 t l) = ((g * Real.exp (∑ s ∈ Finset.range t.val, f s) : ℝ) : EReal) := by
  have e : opA x w tri (ix2 t l) = x (ix2 t l) * Ideal.exp (total w tri (ix2 t l) - w (ix2 t l)) := by
    generalize hy : total w tri = y
    pointwise [opA, same, widen, hy]
  rw [e, hx, total_at w l f h, h t, ← EReal.coe_sub, Finset.sum_range_succ, add_sub_cancel_right, Ideal.exp_coe, ← EReal.coe_mul]

theorem opR_at : opR x w tri (ix2 t l) = ((g * Real.exp (∑ s ∈ Finset.range (t.val + 1), f s) : ℝ) : EReal) := by
  have e : opR x w tri (ix2 t l) = x (ix2 t l) * Ideal.exp (total w tri (ix2 t l)) := by
    generalize hy : total w tri = y
    pointwise [opR, same, widen, hy]
  rw [e, hx, total_at w l f h, Ideal.exp_coe, ← EReal.coe_mul]

theorem opB_at : opB x w tri (ix2 t l) = ((g * Real.exp (-∑ s ∈ Finset.range (t.val + 1), f s) : ℝ) : EReal) := by
  have e : opB x w tri (ix2 t l) = x (ix2 t l) * Ideal.exp (0 - total w tri (ix2 t l)) := by
    generalize hy : total w tri = y
    pointwise [opB, same, widen, hy]
  rw [e, hx, total_at w l f h, ← EReal.coe_zero, ← EReal.coe_sub, zero_sub, Ideal.exp_coe, ← EReal.coe_mul]

theorem opH_at : opH x w tri (ix2 t l)
    = ((g * Real.exp (∑ s ∈ Finset.range 64, f s - ∑ s ∈ Finset.range (t.val + 1), f s) : ℝ) : EReal) := by
  have e : opH x w tri (ix2 t l) = x (ix2 t l) * Ideal.exp (last w tri (ix2 0 l) - total w tri (ix2 t l)) := by
    generalize hz : last w tri = z
    generalize hy : total w tri = y
    pointwise [opH, same, widen, hy, hz]
  rw [e, hx, total_at w l f h, last_at w l f h, ← EReal.coe_sub, Ideal.exp_coe, ← EReal.coe_mul]

omit h in
theorem opV_at : opV x (ix2 t l) = ((g : ℝ) : EReal) := by
  rw [← hx]; pointwise [opV, same, widen]

omit hx in
theorem opD_at : opD w tri (ix3 0 0 l) = ((Real.exp (∑ s ∈ Finset.range 64, f s) : ℝ) : EReal) := by
  have e : opD w tri (ix3 0 0 l) = Ideal.exp (last w tri (ix2 0 l)) := by
    generalize hz : last w tri = z
    pointwise [opD, hz]
  rw [e, last_at w l f h, Ideal.exp_coe]

end ops

/-- The blocks a step loads hold the operands of eight sequences, from frame `n` on. -/
structure Loads (q : Fin 4 → Fin 2 → Seq) (n : ℕ) (x0 x1 x2 x3 x4 : Vec Ideal S256x512 .bf16) (x5 : Vec Ideal S256x512 .f32) : Prop where
  r : ∀ i j p κ, x0 (ix2 i (chan j p κ)) = (((q j p).r (n + i.val) κ : ℝ) : EReal)
  k : ∀ i j p κ, x1 (ix2 i (chan j p κ)) = (((q j p).k (n + i.val) κ : ℝ) : EReal)
  v : ∀ i j p κ, x2 (ix2 i (chan j p κ)) = (((q j p).v (n + i.val) κ : ℝ) : EReal)
  a : ∀ i j p κ, x3 (ix2 i (chan j p κ)) = (((q j p).a (n + i.val) κ : ℝ) : EReal)
  b : ∀ i j p κ, x4 (ix2 i (chan j p κ)) = (((q j p).b (n + i.val) κ : ℝ) : EReal)
  w : ∀ i j p κ, x5 (ix2 i (chan j p κ)) = (((q j p).w (n + i.val) κ : ℝ) : EReal)

/-- What a step stores. -/
def stored (x0 x1 x2 x3 x4 : Vec Ideal S256x512 .bf16) (x5 : Vec Ideal S256x512 .f32) : Tile Ideal where
  decay := gluedDecays fun c => opD (rows x5 c) tri
  a := glued fun c => opA (rows16 x3 c) (rows x5 c) tri
  r := glued fun c => opR (rows16 x0 c) (rows x5 c) tri
  b := glued fun c => opB (rows16 x4 c) (rows x5 c) tri
  k := glued fun c => opB (rows16 x1 c) (rows x5 c) tri
  bh := glued fun c => opH (rows16 x4 c) (rows x5 c) tri
  kh := glued fun c => opH (rows16 x1 c) (rows x5 c) tri
  v := glued fun c => opV (rows16 x2 c)

namespace Loads

variable {q : Fin 4 → Fin 2 → Seq} {n : ℕ} {x0 x1 x2 x3 x4 : Vec Ideal S256x512 .bf16} {x5 : Vec Ideal S256x512 .f32}
  (h : Loads q n x0 x1 x2 x3 x4 x5)

include h

theorem log (c j : Fin 4) (p : Fin 2) (κ : Fin 64) (s : Fin 64) :
    rows x5 c (ix2 s (chan j p κ)) = (((q j p).w (n + 64 * c.val + s.val) κ : ℝ) : EReal) := by
  rw [rows_at, h.w, Nat.add_assoc]; rfl

theorem ops (c j : Fin 4) : ((stored x0 x1 x2 x3 x4 x5).ops c j).Of (q j) (n + 64 * c.val) where
  a := ext_lanes fun t p κ => by
    rw [lane_at]
    refine (item_glued (fun c => opA (rows16 x3 c) (rows x5 c) tri) c j t p κ).trans (opA_at _ _ _ (fun s => (q j p).w (n + 64 * c.val + s) κ) _ t (h.log c j p κ) ?_)
    rw [rows16_at, h.a, Nat.add_assoc]; rfl
  r := ext_lanes fun t p κ => by
    rw [lane_at]
    refine (item_glued (fun c => opR (rows16 x0 c) (rows x5 c) tri) c j t p κ).trans (opR_at _ _ _ (fun s => (q j p).w (n + 64 * c.val + s) κ) _ t (h.log c j p κ) ?_)
    rw [rows16_at, h.r, Nat.add_assoc]; rfl
  b := ext_lanes fun t p κ => by
    rw [lane_at]
    refine (item_glued (fun c => opB (rows16 x4 c) (rows x5 c) tri) c j t p κ).trans (opB_at _ _ _ (fun s => (q j p).w (n + 64 * c.val + s) κ) _ t (h.log c j p κ) ?_)
    rw [rows16_at, h.b, Nat.add_assoc]; rfl
  k := ext_lanes fun t p κ => by
    rw [lane_at]
    refine (item_glued (fun c => opB (rows16 x1 c) (rows x5 c) tri) c j t p κ).trans (opB_at _ _ _ (fun s => (q j p).w (n + 64 * c.val + s) κ) _ t (h.log c j p κ) ?_)
    rw [rows16_at, h.k, Nat.add_assoc]; rfl
  bh := ext_lanes fun t p κ => by
    rw [lane_at]
    refine (item_glued (fun c => opH (rows16 x4 c) (rows x5 c) tri) c j t p κ).trans (opH_at _ _ _ (fun s => (q j p).w (n + 64 * c.val + s) κ) _ t (h.log c j p κ) ?_)
    rw [rows16_at, h.b, Nat.add_assoc]; rfl
  kh := ext_lanes fun t p κ => by
    rw [lane_at]
    refine (item_glued (fun c => opH (rows16 x1 c) (rows x5 c) tri) c j t p κ).trans (opH_at _ _ _ (fun s => (q j p).w (n + 64 * c.val + s) κ) _ t (h.log c j p κ) ?_)
    rw [rows16_at, h.k, Nat.add_assoc]; rfl
  v := ext_lanes fun t p κ => by
    rw [lane_at]
    refine (item_glued (fun c => opV (rows16 x2 c)) c j t p κ).trans (opV_at _ _ _ t ?_)
    rw [rows16_at, h.v]; exact congrArg (fun i => (((q j p).v i κ : ℝ) : EReal)) (Nat.add_assoc _ _ _).symm
  decay := by
    funext i
    idx_vars i
    obtain rfl : i0 = 0 := Subsingleton.elim _ _
    obtain ⟨p, κ, rfl⟩ := ln_surj i1
    rw [row_at]
    refine Eq.trans ?_ (opD_at (rows x5 c) (chan j p κ) (fun s => (q j p).w (n + 64 * c.val + s) κ) (h.log c j p κ))
    generalize hf : (fun c => opD (rows x5 c) tri) = f
    rw [show opD (rows x5 c) tri = f c from hf ▸ rfl]
    have e : ∀ y : FVec Ideal S1x1x128 .f32, shapeCast S1x128 y shapeCasts_S1x1x128_S1x128 (ix2 0 (ln p κ)) = y (ix3 0 0 (ln p κ)) := by
      intro y; pointwise
    refine Eq.trans ?_ ((e (View.ld (gluedDecays f) (Rect.unit ![c.val, 0, 128 * j.val] ![1, 1, 128] (inb_decay c j)))).trans ?_)
    · rw [← hf]; rfl
    refine (congrArg (gluedDecays f) (ix3_of _ c 0 (chan j p κ) ?_ ?_ ?_)).trans rfl
    · exact Rect.idx_unit_val _ _ _ _ 0
    · exact Rect.idx_unit_val _ _ _ _ 1
    · exact Rect.idx_unit_val _ _ _ _ 2

/-- The state before chunk `c`, from the tile's first state on. -/
theorem state (H : Fin 4 → FVec Ideal S1x64x128 .f32) (hH : ∀ j, H j = Tile.store (lane fun p => (q j p).state n)) (c : ℕ) (hc : c ≤ 4)
    (j : Fin 4) : (stored x0 x1 x2 x3 x4 x5).state H c j = Tile.store (lane fun p => (q j p).state (n + 64 * c)) := by
  induction c generalizing j with
  | zero => exact hH j
  | succ c ih =>
    show Tile.store (((stored x0 x1 x2 x3 x4 x5).ops ⟨c % 4, _⟩ j).h' (Tile.load ((stored x0 x1 x2 x3 x4 x5).state H c j))) = _
    have hm : (⟨c % 4, Nat.mod_lt _ (by decide)⟩ : Fin 4) = ⟨c, hc⟩ := Fin.ext (Nat.mod_eq_of_lt hc)
    rw [ih (by omega) j, hm, show Tile.load (Tile.store (lane fun p => (q j p).state (n + 64 * c))) = lane fun p => (q j p).state (n + 64 * c) from ?_,
      (h.ops ⟨c, hc⟩ j).h'_eq]
    · rw [Nat.mul_succ, Nat.add_assoc]
    · generalize (lane fun p => (q j p).state (n + 64 * c)) = y
      funext i
      idx_vars i
      pointwise [Tile.load, Tile.store]

/-- Chunk `c`'s frames. -/
theorem frames (H : Fin 4 → FVec Ideal S1x64x128 .f32) (hH : ∀ j, H j = Tile.store (lane fun p => (q j p).state n)) (c j : Fin 4)
    (t : Fin 64) (p : Fin 2) (ν : Fin 64) :
    (stored x0 x1 x2 x3 x4 x5).frames H c (ix2 t (chan j p ν)) = (((q j p).out (n + 64 * c.val + t.val) ν : ℝ) : EReal) := by
  have hy : ∀ j, ((stored x0 x1 x2 x3 x4 x5).ops c j).y (Tile.load ((stored x0 x1 x2 x3 x4 x5).state H c.val j))
      = lane fun p => (q j p).outs (n + 64 * c.val) := by
    intro j
    rw [h.state H hH c.val (by omega) j, show Tile.load (Tile.store (lane fun p => (q j p).state (n + 64 * c.val)))
      = lane fun p => (q j p).state (n + 64 * c.val) from ?_, (h.ops c j).y_eq]
    generalize (lane fun p => (q j p).state (n + 64 * c.val)) = y
    funext i
    idx_vars i
    pointwise [Tile.load, Tile.store]
  have e : ∀ f : Fin 4 → FVec Ideal S64x128 .f32, pairs f (ix2 t (chan j p ν)) = f j (ix2 t (ln p ν)) := by
    intro f
    fin_cases j <;> fin_cases p <;> pointwise [pairs, chan, ln] <;> split_ifs <;>
      first | omega | exact congrArg (f _) (congrArg (ix2 t) (Fin.ext (by first | rfl | (dsimp only; omega))))
  refine (e _).trans ?_
  rw [hy, lane_at]; rfl

end Loads

end Cert.Proof.Rwkv
-- ==== Proof.RwkvLeft.lean ====
/-
  What a step leaves: its blocks, the states and the operands in scratch.
-/
module

public import proofs.«01_k».proof.Proof.Gen.KernelIdeal.Frame
public import proofs.«01_k».proof.Proof.RwkvStored

@[expose] public section

set_option maxRecDepth 16384

noncomputable section

namespace Cert.Proof.Rwkv

open Idealize.ShloMosaic Idealize.ShloMosaic.TcCoe Idealize.SL.Sem
open Cert.KernelIdeal Cert.KernelIdeal.Gen

/-- A step's blocks and scratch. -/
abbrev Left : Type := Vec Ideal S256x512 .f32 × Vec Ideal S256x2048 .bf16 × Vec Ideal S16x1024 .bf16 × Vec Ideal S16x1024 .bf16 × Vec Ideal S16x4096 .bf16 × Vec Ideal S64x1024 .bf16 × Vec Ideal S4x64x128 .f32 × Vec Ideal S4x1x512 .f32 × Vec Ideal S256x512 .f32 × Vec Ideal S256x512 .f32 × Vec Ideal S256x512 .f32 × Vec Ideal S256x512 .f32 × Vec Ideal S256x512 .f32 × Vec Ideal S256x512 .f32 × Vec Ideal S256x512 .f32

/-- The operands left in scratch. -/
def held (o : Left) : Tile Ideal where
  decay := o.2.2.2.2.2.2.2.1
  a := o.2.2.2.2.2.2.2.2.1
  r := o.2.2.2.2.2.2.2.2.2.1
  b := o.2.2.2.2.2.2.2.2.2.2.1
  k := o.2.2.2.2.2.2.2.2.2.2.2.1
  bh := o.2.2.2.2.2.2.2.2.2.2.2.2.1
  kh := o.2.2.2.2.2.2.2.2.2.2.2.2.2.1
  v := o.2.2.2.2.2.2.2.2.2.2.2.2.2.2

/-- The states left in scratch. -/
def kept (o : Left) : Vec Ideal S4x64x128 .f32 := o.2.2.2.2.2.2.1

theorem canon_rows' (f : Fin 4 → FVec Ideal S64x512 .f32) : View.canon (fourRows f) = glued f := by
  rw [← canon_rows f [], List.append_nil]

theorem canon_decays' (f : Fin 4 → FVec Ideal S1x1x512 .f32) : View.canon (fourDecays f) = gluedDecays f := by
  rw [← canon_decays f [], List.append_nil]

theorem canon_pairs' {L : List (View.Piece (Elt Ideal) S4x64x128 .f32)} {f : Fin 4 → FVec Ideal S1x64x128 .f32} (h : ∃ K, L = fourPairs f ++ K) :
    View.canon L = gluedPairs f := by
  obtain ⟨K, rfl⟩ := h
  exact canon_pairs f K

theorem whole64 (x : Vec Ideal S64x64 .bf16) : View.ld x (Rect.unit ![0, 0] ![64, 64] inb_S64x64_S64x64_0_0) = x :=
  View.ld_unit_zero (S := S64x64) (by decide) _ x

theorem whole128 (x : Vec Ideal S128x128 .bf16) : View.ld x (Rect.unit ![0, 0] ![128, 128] inb_S128x128_S128x128_0_0) = x :=
  View.ld_unit_zero (S := S128x128) (by decide) _ x

theorem whole512 (x : Vec Ideal S1x512 .f32) : View.ld x (Rect.unit ![0, 0] ![1, 512] inb_S1x512_S1x512_0_0) = x :=
  View.ld_unit_zero (S := S1x512) (by decide) _ x

/-- The states at a sequence's start. -/
def zeroed : Vec Ideal S4x64x128 .f32 := broadcast S4x64x128 (Scalar.ofBits (F := Ideal) .f32 0x00000000#32)

end Cert.Proof.Rwkv

end
-- ==== Proof.RwkvGate.lean ====
/-
  The gate columns of the input projection: eight blocks of 256 columns of one product.
-/
module

public import proofs.«01_k».proof.Proof.RwkvLoad

@[expose] public section

set_option maxRecDepth 16384

noncomputable section

namespace Cert.Proof.Rwkv

open Idealize.ShloMosaic Idealize.ShloMosaic.TcCoe Idealize.SL.Sem
open Cert.KernelIdeal Cert.KernelIdeal.Gen

variable {F : FTy → Type} [FloatOps F]

theorem inb_weight (q : Fin 8) (a : Fin S1024x2048.rank) :
    (![0, 256 * q.val] : Fin 2 → ℕ) a + (![1024, 256] : Fin 2 → ℕ) a ≤ S1024x2048.size a := by
  revert q a; decide

theorem inb_gate (q : Fin 8) (a : Fin S256x2048.rank) :
    (![0, 256 * q.val] : Fin 2 → ℕ) a + (![256, 256] : Fin 2 → ℕ) a ≤ S256x2048.size a := by
  revert q a; decide

/-- Block `q` of the columns. -/
def gatePart (x : Vec F S256x1024 .bf16) (w : Vec F S1024x2048 .bf16) (q : Fin 8) : FVec F S256x256 .bf16 :=
  truncf .bf16 (matmul dot_S256x1024_S1024x256_S256x256_1_0_0_1_n_n none
    (View.ld x (Rect.unit ![0, 0] ![256, 1024] inb_S256x1024_S256x1024_0_0))
    (View.ld w (Rect.unit ![0, 256 * q.val] ![1024, 256] (inb_weight q))) (constant S256x256 .f32 0x00000000#32)) bitsLt_bf16_f32

def gateCols (f : Fin 8 → FVec F S256x256 .bf16) : List (View.Piece (Elt F) S256x2048 .bf16) :=
  [⟨Rect.unit ![0, 1792] ![256, 256] inb_S256x2048_S256x256_0_1792, f 7⟩,
   ⟨Rect.unit ![0, 1536] ![256, 256] inb_S256x2048_S256x256_0_1536, f 6⟩,
   ⟨Rect.unit ![0, 1280] ![256, 256] inb_S256x2048_S256x256_0_1280, f 5⟩,
   ⟨Rect.unit ![0, 1024] ![256, 256] inb_S256x2048_S256x256_0_1024, f 4⟩,
   ⟨Rect.unit ![0, 768] ![256, 256] inb_S256x2048_S256x256_0_768, f 3⟩,
   ⟨Rect.unit ![0, 512] ![256, 256] inb_S256x2048_S256x256_0_512, f 2⟩,
   ⟨Rect.unit ![0, 256] ![256, 256] inb_S256x2048_S256x256_0_256, f 1⟩,
   ⟨Rect.unit ![0, 0] ![256, 256] inb_S256x2048_S256x256_0_0, f 0⟩]

/-- The product the blocks are the columns of. -/
def gateProduct (x : Vec Ideal S256x1024 .bf16) (w : Vec Ideal S1024x2048 .bf16) : Vec Ideal S256x2048 .bf16 := fun y =>
  ∑ k : Fin 1024, x (ix2 (y 0) k) * w (ix2 k (y 1))

theorem gatePart_at (x : Vec Ideal S256x1024 .bf16) (w : Vec Ideal S1024x2048 .bf16) (q : Fin 8) (r : Fin 256) (l : Fin 256)
    (h : 256 * q.val + l.val < 2048) :
    gatePart x w q (ix2 r l) = gateProduct x w (ix2 r ⟨256 * q.val + l.val, h⟩) := by
  fin_cases q <;> pointwise [gatePart, gateProduct]

theorem canon_gate (x : Vec Ideal S256x1024 .bf16) (w : Vec Ideal S1024x2048 .bf16) :
    View.canon (gateCols (gatePart x w)) = gateProduct x w := by
  funext y
  refine View.canon_apply_of_pieces (gateProduct x w) (gateCols (gatePart x w)) ?_ y ?_
  · have key : ∀ (q : Fin 8) (z : (Rect.unit (s := S256x2048) ![0, 256 * q.val] ![256, 256] (inb_gate q)).shape.Idx),
        gatePart x w q z = gateProduct x w ((Rect.unit (s := S256x2048) ![0, 256 * q.val] ![256, 256] (inb_gate q)).emb z) := by
      intro q z
      have hz : (z 1).val < 256 := (z 1).isLt
      have e : (Rect.unit (s := S256x2048) ![0, 256 * q.val] ![256, 256] (inb_gate q)).emb z
          = ix2 (z 0) ⟨256 * q.val + (z 1).val, by omega⟩ :=
        ix2_of _ _ _ ((Rect.idx_unit_val _ _ _ z 0).trans (Nat.zero_add _)) (Rect.idx_unit_val _ _ _ z 1)
      rw [e]
      refine Eq.trans ?_ (gatePart_at x w q (z 0) (z 1) _)
      exact congrArg (gatePart x w q) (ix2_of z (z 0) (z 1) rfl rfl)
    intro p hp z
    simp only [gateCols, List.mem_cons, List.not_mem_nil, or_false] at hp
    rcases hp with rfl | rfl | rfl | rfl | rfl | rfl | rfl | rfl
    · exact key 7 z
    · exact key 6 z
    · exact key 5 z
    · exact key 4 z
    · exact key 3 z
    · exact key 2 z
    · exact key 1 z
    · exact key 0 z
  · exact View.cover_of_tiled_head _ _ _ (by rfl) y

end Cert.Proof.Rwkv
-- ==== Proof.RwkvRunA.lean ====
/-
  The first step: it stores its tile's operands; what it computes from the cleared ones is written over by the second.
-/
module

public import proofs.«01_k».proof.Proof.Gen.KernelIdeal.Frame.RunA
public import proofs.«01_k».proof.Proof.RwkvGate

@[expose] public section

set_option maxRecDepth 16384
set_option maxHeartbeats 4000000

noncomputable section

namespace Cert.Proof.Rwkv

open Idealize.ShloMosaic Idealize.ShloMosaic.TcCoe Idealize.SL.Sem
open Cert.KernelIdeal Cert.KernelIdeal.Gen

variable {F : FTy → Type} [FloatOps F]

variable (c : Dev nD) (i : grid0.Coords) (arg1 : Memref sig .tc .vmem S256x512 .bf16) (harg1 : arg1.IsWhole)
  (arg2 : Memref sig .tc .vmem S256x512 .bf16) (harg2 : arg2.IsWhole) (arg3 : Memref sig .tc .vmem S256x512 .bf16)
  (harg3 : arg3.IsWhole) (arg4 : Memref sig .tc .vmem S256x512 .bf16) (harg4 : arg4.IsWhole)
  (arg5 : Memref sig .tc .vmem S256x512 .bf16) (harg5 : arg5.IsWhole) (arg6 : Memref sig .tc .vmem S256x512 .f32)
  (harg6 : arg6.IsWhole) (arg7 : Memref sig .tc .vmem S256x512 .f32) (harg7 : arg7.IsWhole)
  (arg8 : Memref sig .tc .vmem S256x512 .f32) (harg8 : arg8.IsWhole) (arg9 : Memref sig .tc .vmem S256x1024 .bf16)
  (harg9 : arg9.IsWhole) (arg10 : Memref sig .tc .vmem S1024x2048 .bf16) (harg10 : arg10.IsWhole)
  (arg11 : Memref sig .tc .vmem S1x512 .f32) (harg11 : arg11.IsWhole) (arg12 : Memref sig .tc .vmem S1x512 .f32)
  (harg12 : arg12.IsWhole) (arg13 : Memref sig .tc .vmem S128x128 .bf16) (harg13 : arg13.IsWhole)
  (arg14 : Memref sig .tc .vmem S64x64 .bf16) (harg14 : arg14.IsWhole) (arg15 : Memref sig .tc .vmem S16x1024 .f32)
  (harg15 : arg15.IsWhole) (arg16 : Memref sig .tc .vmem S16x1024 .f32) (harg16 : arg16.IsWhole)
  (arg17 : Memref sig .tc .vmem S16x4096 .f32) (harg17 : arg17.IsWhole) (arg18 : Memref sig .tc .vmem S64x1024 .f32)
  (harg18 : arg18.IsWhole) (arg19 : Memref sig .tc .vmem S256x512 .f32) (harg19 : arg19.IsWhole)
  (arg20 : Memref sig .tc .vmem S256x2048 .bf16) (harg20 : arg20.IsWhole) (arg21 : Memref sig .tc .vmem S16x1024 .bf16)
  (harg21 : arg21.IsWhole) (arg22 : Memref sig .tc .vmem S16x1024 .bf16) (harg22 : arg22.IsWhole)
  (arg23 : Memref sig .tc .vmem S16x4096 .bf16) (harg23 : arg23.IsWhole) (arg24 : Memref sig .tc .vmem S64x1024 .bf16)
  (harg24 : arg24.IsWhole) (arg25 : Memref sig .tc .vmem S4x64x128 .f32) (harg25 : arg25.IsWhole)
  (arg26 : Memref sig .tc .vmem S4x1x512 .f32) (harg26 : arg26.IsWhole) (arg27 : Memref sig .tc .vmem S256x512 .f32)
  (harg27 : arg27.IsWhole) (arg28 : Memref sig .tc .vmem S256x512 .f32) (harg28 : arg28.IsWhole)
  (arg29 : Memref sig .tc .vmem S256x512 .f32) (harg29 : arg29.IsWhole) (arg30 : Memref sig .tc .vmem S256x512 .f32)
  (harg30 : arg30.IsWhole) (arg31 : Memref sig .tc .vmem S256x512 .f32) (harg31 : arg31.IsWhole)
  (arg32 : Memref sig .tc .vmem S256x512 .f32) (harg32 : arg32.IsWhole) (arg33 : Memref sig .tc .vmem S256x512 .f32)
  (harg33 : arg33.IsWhole) (hc0 : cond0_0 i) (hc1 : cond0_1 i) (x0 : Vec F S256x512 .bf16) (x1 : Vec F S256x512 .bf16)
  (x2 : Vec F S256x512 .bf16) (x3 : Vec F S256x512 .bf16) (x4 : Vec F S256x512 .bf16) (x5 : Vec F S256x512 .f32)
  (x6 : Vec F S256x512 .f32) (x7 : Vec F S256x512 .f32) (x8 : Vec F S256x1024 .bf16) (x9 : Vec F S1024x2048 .bf16)
  (x10 : Vec F S1x512 .f32) (x11 : Vec F S1x512 .f32) (x12 : Vec F S128x128 .bf16) (x13 : Vec F S64x64 .bf16)
  (x14 : Vec F S16x1024 .f32) (x15 : Vec F S16x1024 .f32) (x16 : Vec F S16x4096 .f32) (x17 : Vec F S64x1024 .f32)

theorem run_A {R : _} (hR : kernelRun0_A c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25 arg26
      harg26 arg27 harg27 arg28 harg28 arg29 harg29 arg30 harg30 arg31 harg31 arg32 harg32 arg33 harg33 hc0 hc1 x0 x1
      x2 x3 x4 x5 x6 x7 x8 x9 x10 x11 x12 x13 x14 x15 x16 x17 = R) :
    (∃ L, R.2.2.2.2.2.2.2.1 = fourDecays (fun c => opD (rows x5 c) (View.ld x13 (Rect.unit ![0, 0] ![64, 64] inb_S64x64_S64x64_0_0))) ++ L)
    ∧ (∃ L, R.2.2.2.2.2.2.2.2.1 = fourRows (fun c => opA (rows16 x3 c) (rows x5 c) (View.ld x13 (Rect.unit ![0, 0] ![64, 64] inb_S64x64_S64x64_0_0))) ++ L)
    ∧ (∃ L, R.2.2.2.2.2.2.2.2.2.1 = fourRows (fun c => opR (rows16 x0 c) (rows x5 c) (View.ld x13 (Rect.unit ![0, 0] ![64, 64] inb_S64x64_S64x64_0_0))) ++ L)
    ∧ (∃ L, R.2.2.2.2.2.2.2.2.2.2.1 = fourRows (fun c => opB (rows16 x4 c) (rows x5 c) (View.ld x13 (Rect.unit ![0, 0] ![64, 64] inb_S64x64_S64x64_0_0))) ++ L)
    ∧ (∃ L, R.2.2.2.2.2.2.2.2.2.2.2.1 = fourRows (fun c => opB (rows16 x1 c) (rows x5 c) (View.ld x13 (Rect.unit ![0, 0] ![64, 64] inb_S64x64_S64x64_0_0))) ++ L)
    ∧ (∃ L, R.2.2.2.2.2.2.2.2.2.2.2.2.1 = fourRows (fun c => opH (rows16 x4 c) (rows x5 c) (View.ld x13 (Rect.unit ![0, 0] ![64, 64] inb_S64x64_S64x64_0_0))) ++ L)
    ∧ (∃ L, R.2.2.2.2.2.2.2.2.2.2.2.2.2.1 = fourRows (fun c => opH (rows16 x1 c) (rows x5 c) (View.ld x13 (Rect.unit ![0, 0] ![64, 64] inb_S64x64_S64x64_0_0))) ++ L)
    ∧ (∃ L, R.2.2.2.2.2.2.2.2.2.2.2.2.2.2 = fourRows (fun c => opV (rows16 x2 c)) ++ L) := by
  subst hR
  refine ⟨?_, ?_, ?_, ?_, ?_, ?_, ?_, ?_⟩
  all_goals
    frame_open
    simp (disch := decide) only [View.readAt_eq_ld, Memref.IsWhole.read_unread]
    exact ⟨_, rfl⟩

end Cert.Proof.Rwkv
-- ==== Proof.RwkvStepA.lean ====
/-
  What the first step leaves: the first tile's operands.
-/
module

public import proofs.«01_k».proof.Proof.RwkvLeft
public import proofs.«01_k».proof.Proof.RwkvRunA

@[expose] public section

set_option maxRecDepth 16384
set_option maxHeartbeats 4000000

noncomputable section

namespace Cert.Proof.Rwkv

open Idealize.ShloMosaic Idealize.ShloMosaic.TcCoe Idealize.SL.Sem
open Cert.KernelIdeal Cert.KernelIdeal.Gen

attribute [local irreducible] kernelRun0_A

theorem canon_rows_of {L : List (View.Piece (Elt Ideal) S256x512 .f32)} {f : Fin 4 → FVec Ideal S64x512 .f32} (h : ∃ K, L = fourRows f ++ K) :
    View.canon L = glued f := by
  obtain ⟨K, rfl⟩ := h
  exact canon_rows f K

theorem canon_decays_of {L : List (View.Piece (Elt Ideal) S4x1x512 .f32)} {f : Fin 4 → FVec Ideal S1x1x512 .f32}
    (h : ∃ K, L = fourDecays f ++ K) : View.canon L = gluedDecays f := by
  obtain ⟨K, rfl⟩ := h
  exact canon_decays f K

variable (m : (ℓ : Loc nD τ sig) → Buf (Elt Ideal) ℓ) (c : Dev nD) (t : Fin cfg0.N)

theorem left_A (h0 : t.val % 65 = 0) (h1 : t.val % 65 = 0 ∨ t.val % 65 = 1 ∨ t.val % 65 = 33) (htri : iblk m c 13 t = tri)
    (O : Left) (hO : outsAt0 m c t.val t.isLt = O) :
    held O = stored (iblk m c 0 t) (iblk m c 1 t) (iblk m c 2 t) (iblk m c 3 t) (iblk m c 4 t) (iblk m c 5 t) := by
  rw [outsAt0_A m c t h0 h1] at hO
  subst hO
  unfold held
  dsimp only
  unfold stored
  congr 1
  · unfold sout0_A_1
    rw [View.read_writes_junk_eq_canon, canon_decays_of (run_A (hR := rfl)).1, whole64, htri]
  · unfold sout0_A_2
    rw [View.read_writes_junk_eq_canon, canon_rows_of (run_A (hR := rfl)).2.1, whole64, htri]
  · unfold sout0_A_3
    rw [View.read_writes_junk_eq_canon, canon_rows_of (run_A (hR := rfl)).2.2.1, whole64, htri]
  · unfold sout0_A_4
    rw [View.read_writes_junk_eq_canon, canon_rows_of (run_A (hR := rfl)).2.2.2.1, whole64, htri]
  · unfold sout0_A_5
    rw [View.read_writes_junk_eq_canon, canon_rows_of (run_A (hR := rfl)).2.2.2.2.1, whole64, htri]
  · unfold sout0_A_6
    rw [View.read_writes_junk_eq_canon, canon_rows_of (run_A (hR := rfl)).2.2.2.2.2.1, whole64, htri]
  · unfold sout0_A_7
    rw [View.read_writes_junk_eq_canon, canon_rows_of (run_A (hR := rfl)).2.2.2.2.2.2.1, whole64, htri]
  · unfold sout0_A_8
    rw [View.read_writes_junk_eq_canon, canon_rows_of (run_A (hR := rfl)).2.2.2.2.2.2.2]

end Cert.Proof.Rwkv

end
-- ==== Proof.RwkvRunB.lean ====
/-
  A step at the start of a sequence: the state is cleared.
-/
module

public import proofs.«01_k».proof.Proof.Gen.KernelIdeal.Frame.RunB
public import proofs.«01_k».proof.Proof.RwkvGate

@[expose] public section

set_option maxRecDepth 16384
set_option maxHeartbeats 4000000

noncomputable section

namespace Cert.Proof.Rwkv

open Idealize.ShloMosaic Idealize.ShloMosaic.TcCoe Idealize.SL.Sem
open Cert.KernelIdeal Cert.KernelIdeal.Gen

variable {F : FTy → Type} [FloatOps F]

variable (c : Dev nD) (i : grid0.Coords) (arg1 : Memref sig .tc .vmem S256x512 .bf16) (harg1 : arg1.IsWhole)
  (arg2 : Memref sig .tc .vmem S256x512 .bf16) (harg2 : arg2.IsWhole) (arg3 : Memref sig .tc .vmem S256x512 .bf16)
  (harg3 : arg3.IsWhole) (arg4 : Memref sig .tc .vmem S256x512 .bf16) (harg4 : arg4.IsWhole)
  (arg5 : Memref sig .tc .vmem S256x512 .bf16) (harg5 : arg5.IsWhole) (arg6 : Memref sig .tc .vmem S256x512 .f32)
  (harg6 : arg6.IsWhole) (arg7 : Memref sig .tc .vmem S256x512 .f32) (harg7 : arg7.IsWhole)
  (arg8 : Memref sig .tc .vmem S256x512 .f32) (harg8 : arg8.IsWhole) (arg9 : Memref sig .tc .vmem S256x1024 .bf16)
  (harg9 : arg9.IsWhole) (arg10 : Memref sig .tc .vmem S1024x2048 .bf16) (harg10 : arg10.IsWhole)
  (arg11 : Memref sig .tc .vmem S1x512 .f32) (harg11 : arg11.IsWhole) (arg12 : Memref sig .tc .vmem S1x512 .f32)
  (harg12 : arg12.IsWhole) (arg13 : Memref sig .tc .vmem S128x128 .bf16) (harg13 : arg13.IsWhole)
  (arg14 : Memref sig .tc .vmem S64x64 .bf16) (harg14 : arg14.IsWhole) (arg15 : Memref sig .tc .vmem S16x1024 .f32)
  (harg15 : arg15.IsWhole) (arg16 : Memref sig .tc .vmem S16x1024 .f32) (harg16 : arg16.IsWhole)
  (arg17 : Memref sig .tc .vmem S16x4096 .f32) (harg17 : arg17.IsWhole) (arg18 : Memref sig .tc .vmem S64x1024 .f32)
  (harg18 : arg18.IsWhole) (arg19 : Memref sig .tc .vmem S256x512 .f32) (harg19 : arg19.IsWhole)
  (arg20 : Memref sig .tc .vmem S256x2048 .bf16) (harg20 : arg20.IsWhole) (arg21 : Memref sig .tc .vmem S16x1024 .bf16)
  (harg21 : arg21.IsWhole) (arg22 : Memref sig .tc .vmem S16x1024 .bf16) (harg22 : arg22.IsWhole)
  (arg23 : Memref sig .tc .vmem S16x4096 .bf16) (harg23 : arg23.IsWhole) (arg24 : Memref sig .tc .vmem S64x1024 .bf16)
  (harg24 : arg24.IsWhole) (arg25 : Memref sig .tc .vmem S4x64x128 .f32) (harg25 : arg25.IsWhole)
  (arg26 : Memref sig .tc .vmem S4x1x512 .f32) (harg26 : arg26.IsWhole) (arg27 : Memref sig .tc .vmem S256x512 .f32)
  (harg27 : arg27.IsWhole) (arg28 : Memref sig .tc .vmem S256x512 .f32) (harg28 : arg28.IsWhole)
  (arg29 : Memref sig .tc .vmem S256x512 .f32) (harg29 : arg29.IsWhole) (arg30 : Memref sig .tc .vmem S256x512 .f32)
  (harg30 : arg30.IsWhole) (arg31 : Memref sig .tc .vmem S256x512 .f32) (harg31 : arg31.IsWhole)
  (arg32 : Memref sig .tc .vmem S256x512 .f32) (harg32 : arg32.IsWhole) (arg33 : Memref sig .tc .vmem S256x512 .f32)
  (harg33 : arg33.IsWhole) (hc0 : ¬cond0_0 i) (hc1 : cond0_1 i) (x0 : Vec F S256x512 .bf16) (x1 : Vec F S256x512 .bf16)
  (x2 : Vec F S256x512 .bf16) (x3 : Vec F S256x512 .bf16) (x4 : Vec F S256x512 .bf16) (x5 : Vec F S256x512 .f32)
  (x6 : Vec F S256x512 .f32) (x7 : Vec F S256x512 .f32) (x8 : Vec F S256x1024 .bf16) (x9 : Vec F S1024x2048 .bf16)
  (x10 : Vec F S1x512 .f32) (x11 : Vec F S1x512 .f32) (x12 : Vec F S128x128 .bf16) (x13 : Vec F S64x64 .bf16)
  (x14 : Vec F S16x1024 .f32) (x15 : Vec F S16x1024 .f32) (x16 : Vec F S16x4096 .f32) (x17 : Vec F S64x1024 .f32)
  (xs1 : Vec F S4x1x512 .f32) (xs2 : Vec F S256x512 .f32) (xs3 : Vec F S256x512 .f32) (xs4 : Vec F S256x512 .f32)
  (xs5 : Vec F S256x512 .f32) (xs6 : Vec F S256x512 .f32) (xs7 : Vec F S256x512 .f32) (xs8 : Vec F S256x512 .f32)

theorem run_B {R : _} (hR : kernelRun0_B c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25 arg26
      harg26 arg27 harg27 arg28 harg28 arg29 harg29 arg30 harg30 arg31 harg31 arg32 harg32 arg33 harg33 hc0 hc1 x0 x1
      x2 x3 x4 x5 x6 x7 x8 x9 x10 x11 x12 x13 x14 x15 x16 x17 xs1 xs2 xs3 xs4 xs5 xs6 xs7 xs8 = R) :
    R.1 = fourRows (fun c => close (View.ld x12 (Rect.unit ![0, 0] ![128, 128] inb_S128x128_S128x128_0_0))
        (View.ld x10 (Rect.unit ![0, 0] ![1, 512] inb_S1x512_S1x512_0_0)) (View.ld x11 (Rect.unit ![0, 0] ![1, 512] inb_S1x512_S1x512_0_0))
        (rows x7 c) (rows x6 c) (Tile.frames ⟨xs1, xs2, xs3, xs4, xs5, xs6, xs7, xs8⟩ (fun j => pair (broadcast S4x64x128 (Scalar.ofBits .f32 0x00000000#32)) j) c))
    ∧ R.2.1 = gateCols (gatePart x8 x9)
    ∧ (∃ L, R.2.2.2.2.2.2.1 = fourPairs (Tile.state ⟨xs1, xs2, xs3, xs4, xs5, xs6, xs7, xs8⟩ (fun j => pair (broadcast S4x64x128 (Scalar.ofBits .f32 0x00000000#32)) j) 4) ++ L)
    ∧ R.2.2.2.2.2.2.2.1 = fourDecays (fun c => opD (rows x5 c) (View.ld x13 (Rect.unit ![0, 0] ![64, 64] inb_S64x64_S64x64_0_0)))
    ∧ R.2.2.2.2.2.2.2.2.1 = fourRows (fun c => opA (rows16 x3 c) (rows x5 c) (View.ld x13 (Rect.unit ![0, 0] ![64, 64] inb_S64x64_S64x64_0_0)))
    ∧ R.2.2.2.2.2.2.2.2.2.1 = fourRows (fun c => opR (rows16 x0 c) (rows x5 c) (View.ld x13 (Rect.unit ![0, 0] ![64, 64] inb_S64x64_S64x64_0_0)))
    ∧ R.2.2.2.2.2.2.2.2.2.2.1 = fourRows (fun c => opB (rows16 x4 c) (rows x5 c) (View.ld x13 (Rect.unit ![0, 0] ![64, 64] inb_S64x64_S64x64_0_0)))
    ∧ R.2.2.2.2.2.2.2.2.2.2.2.1 = fourRows (fun c => opB (rows16 x1 c) (rows x5 c) (View.ld x13 (Rect.unit ![0, 0] ![64, 64] inb_S64x64_S64x64_0_0)))
    ∧ R.2.2.2.2.2.2.2.2.2.2.2.2.1 = fourRows (fun c => opH (rows16 x4 c) (rows x5 c) (View.ld x13 (Rect.unit ![0, 0] ![64, 64] inb_S64x64_S64x64_0_0)))
    ∧ R.2.2.2.2.2.2.2.2.2.2.2.2.2.1 = fourRows (fun c => opH (rows16 x1 c) (rows x5 c) (View.ld x13 (Rect.unit ![0, 0] ![64, 64] inb_S64x64_S64x64_0_0)))
    ∧ R.2.2.2.2.2.2.2.2.2.2.2.2.2.2 = fourRows (fun c => opV (rows16 x2 c)) := by
  subst hR
  refine ⟨?_, ?_, ?_, ?_, ?_, ?_, ?_, ?_, ?_, ?_, ?_⟩
  all_goals
    frame_open
    simp (disch := decide) only [View.readAt_eq_ld, Memref.IsWhole.read_unread, ↓ View.readCov_skip, ↓ View.readCov_cons_toLoadRect, ↓ View.readCov_fill]
    first | rfl | exact ⟨_, rfl⟩

end Cert.Proof.Rwkv
-- ==== Proof.RwkvStepB.lean ====
/-
  What a sequence's first step leaves, from what the step before left.
-/
module

public import proofs.«01_k».proof.Proof.RwkvLeft
public import proofs.«01_k».proof.Proof.RwkvRunB

@[expose] public section

set_option maxRecDepth 16384
set_option maxHeartbeats 4000000

noncomputable section

namespace Cert.Proof.Rwkv

open Idealize.ShloMosaic Idealize.ShloMosaic.TcCoe Idealize.SL.Sem
open Cert.KernelIdeal Cert.KernelIdeal.Gen

attribute [local irreducible] kernelRun0_B

variable (m : (ℓ : Loc nD τ sig) → Buf (Elt Ideal) ℓ) (c : Dev nD) (t : Fin cfg0.N)

theorem left_B (h0 : ¬t.val % 65 = 0) (h1 : (t.val % 65 = 0 ∨ t.val % 65 = 1 ∨ t.val % 65 = 33)) (htri : iblk m c 13 t = tri) (P : Left)
    (hP : outsAt0 m c (t.val - 1) (Nat.lt_of_le_of_lt (Nat.sub_le _ _) t.isLt) = P) (O : Left) (hO : outsAt0 m c t.val t.isLt = O) :
    O.1 = glued (fun k => close (iblk m c 12 t) (iblk m c 10 t) (iblk m c 11 t) (rows (iblk m c 7 t) k) (rows (iblk m c 6 t) k)
        ((held P).frames (pair (zeroed)) k))
    ∧ O.2.1 = gateProduct (iblk m c 8 t) (iblk m c 9 t)
    ∧ kept O = gluedPairs ((held P).state (pair (zeroed)) 4)
    ∧ held O = stored (iblk m c 0 t) (iblk m c 1 t) (iblk m c 2 t) (iblk m c 3 t) (iblk m c 4 t) (iblk m c 5 t) := by
  rw [outsAt0_B m c t h0 h1] at hO
  simp only [hP] at hO
  subst hO
  refine ⟨?_, ?_, ?_, ?_⟩
  · dsimp only
    unfold out0_B_18
    rw [View.read_writes_junk_eq_canon, (run_B (hR := rfl)).1, canon_rows', whole128, whole512, whole512]
    rfl
  · dsimp only
    unfold out0_B_19
    rw [View.read_writes_junk_eq_canon, (run_B (hR := rfl)).2.1, canon_gate]
  · unfold kept
    dsimp only
    unfold sout0_B_0
    rw [View.read_writes_junk_eq_canon, canon_pairs' (run_B (hR := rfl)).2.2.1]
    rfl
  · unfold held
    dsimp only
    unfold stored
    congr 1
    · unfold sout0_B_1
      rw [View.read_writes_junk_eq_canon, (run_B (hR := rfl)).2.2.2.1, canon_decays', whole64, htri]
    · unfold sout0_B_2
      rw [View.read_writes_junk_eq_canon, (run_B (hR := rfl)).2.2.2.2.1, canon_rows', whole64, htri]
    · unfold sout0_B_3
      rw [View.read_writes_junk_eq_canon, (run_B (hR := rfl)).2.2.2.2.2.1, canon_rows', whole64, htri]
    · unfold sout0_B_4
      rw [View.read_writes_junk_eq_canon, (run_B (hR := rfl)).2.2.2.2.2.2.1, canon_rows', whole64, htri]
    · unfold sout0_B_5
      rw [View.read_writes_junk_eq_canon, (run_B (hR := rfl)).2.2.2.2.2.2.2.1, canon_rows', whole64, htri]
    · unfold sout0_B_6
      rw [View.read_writes_junk_eq_canon, (run_B (hR := rfl)).2.2.2.2.2.2.2.2.1, canon_rows', whole64, htri]
    · unfold sout0_B_7
      rw [View.read_writes_junk_eq_canon, (run_B (hR := rfl)).2.2.2.2.2.2.2.2.2.1, canon_rows', whole64, htri]
    · unfold sout0_B_8
      rw [View.read_writes_junk_eq_canon, (run_B (hR := rfl)).2.2.2.2.2.2.2.2.2.2, canon_rows']

end Cert.Proof.Rwkv

end
-- ==== Proof.RwkvRunC.lean ====
/-
  A step inside a sequence.
-/
module

public import proofs.«01_k».proof.Proof.Gen.KernelIdeal.Frame.RunC
public import proofs.«01_k».proof.Proof.RwkvGate

@[expose] public section

set_option maxRecDepth 16384
set_option maxHeartbeats 4000000

noncomputable section

namespace Cert.Proof.Rwkv

open Idealize.ShloMosaic Idealize.ShloMosaic.TcCoe Idealize.SL.Sem
open Cert.KernelIdeal Cert.KernelIdeal.Gen

variable {F : FTy → Type} [FloatOps F]

variable (c : Dev nD) (i : grid0.Coords) (arg1 : Memref sig .tc .vmem S256x512 .bf16) (harg1 : arg1.IsWhole)
  (arg2 : Memref sig .tc .vmem S256x512 .bf16) (harg2 : arg2.IsWhole) (arg3 : Memref sig .tc .vmem S256x512 .bf16)
  (harg3 : arg3.IsWhole) (arg4 : Memref sig .tc .vmem S256x512 .bf16) (harg4 : arg4.IsWhole)
  (arg5 : Memref sig .tc .vmem S256x512 .bf16) (harg5 : arg5.IsWhole) (arg6 : Memref sig .tc .vmem S256x512 .f32)
  (harg6 : arg6.IsWhole) (arg7 : Memref sig .tc .vmem S256x512 .f32) (harg7 : arg7.IsWhole)
  (arg8 : Memref sig .tc .vmem S256x512 .f32) (harg8 : arg8.IsWhole) (arg9 : Memref sig .tc .vmem S256x1024 .bf16)
  (harg9 : arg9.IsWhole) (arg10 : Memref sig .tc .vmem S1024x2048 .bf16) (harg10 : arg10.IsWhole)
  (arg11 : Memref sig .tc .vmem S1x512 .f32) (harg11 : arg11.IsWhole) (arg12 : Memref sig .tc .vmem S1x512 .f32)
  (harg12 : arg12.IsWhole) (arg13 : Memref sig .tc .vmem S128x128 .bf16) (harg13 : arg13.IsWhole)
  (arg14 : Memref sig .tc .vmem S64x64 .bf16) (harg14 : arg14.IsWhole) (arg15 : Memref sig .tc .vmem S16x1024 .f32)
  (harg15 : arg15.IsWhole) (arg16 : Memref sig .tc .vmem S16x1024 .f32) (harg16 : arg16.IsWhole)
  (arg17 : Memref sig .tc .vmem S16x4096 .f32) (harg17 : arg17.IsWhole) (arg18 : Memref sig .tc .vmem S64x1024 .f32)
  (harg18 : arg18.IsWhole) (arg19 : Memref sig .tc .vmem S256x512 .f32) (harg19 : arg19.IsWhole)
  (arg20 : Memref sig .tc .vmem S256x2048 .bf16) (harg20 : arg20.IsWhole) (arg21 : Memref sig .tc .vmem S16x1024 .bf16)
  (harg21 : arg21.IsWhole) (arg22 : Memref sig .tc .vmem S16x1024 .bf16) (harg22 : arg22.IsWhole)
  (arg23 : Memref sig .tc .vmem S16x4096 .bf16) (harg23 : arg23.IsWhole) (arg24 : Memref sig .tc .vmem S64x1024 .bf16)
  (harg24 : arg24.IsWhole) (arg25 : Memref sig .tc .vmem S4x64x128 .f32) (harg25 : arg25.IsWhole)
  (arg26 : Memref sig .tc .vmem S4x1x512 .f32) (harg26 : arg26.IsWhole) (arg27 : Memref sig .tc .vmem S256x512 .f32)
  (harg27 : arg27.IsWhole) (arg28 : Memref sig .tc .vmem S256x512 .f32) (harg28 : arg28.IsWhole)
  (arg29 : Memref sig .tc .vmem S256x512 .f32) (harg29 : arg29.IsWhole) (arg30 : Memref sig .tc .vmem S256x512 .f32)
  (harg30 : arg30.IsWhole) (arg31 : Memref sig .tc .vmem S256x512 .f32) (harg31 : arg31.IsWhole)
  (arg32 : Memref sig .tc .vmem S256x512 .f32) (harg32 : arg32.IsWhole) (arg33 : Memref sig .tc .vmem S256x512 .f32)
  (harg33 : arg33.IsWhole) (hc0 : ¬cond0_0 i) (hc1 : ¬cond0_1 i) (x0 : Vec F S256x512 .bf16) (x1 : Vec F S256x512 .bf16)
  (x2 : Vec F S256x512 .bf16) (x3 : Vec F S256x512 .bf16) (x4 : Vec F S256x512 .bf16) (x5 : Vec F S256x512 .f32)
  (x6 : Vec F S256x512 .f32) (x7 : Vec F S256x512 .f32) (x8 : Vec F S256x1024 .bf16) (x9 : Vec F S1024x2048 .bf16)
  (x10 : Vec F S1x512 .f32) (x11 : Vec F S1x512 .f32) (x12 : Vec F S128x128 .bf16) (x13 : Vec F S64x64 .bf16)
  (x14 : Vec F S16x1024 .f32) (x15 : Vec F S16x1024 .f32) (x16 : Vec F S16x4096 .f32) (x17 : Vec F S64x1024 .f32)
  (xs0 : Vec F S4x64x128 .f32) (xs1 : Vec F S4x1x512 .f32) (xs2 : Vec F S256x512 .f32) (xs3 : Vec F S256x512 .f32)
  (xs4 : Vec F S256x512 .f32) (xs5 : Vec F S256x512 .f32) (xs6 : Vec F S256x512 .f32) (xs7 : Vec F S256x512 .f32)
  (xs8 : Vec F S256x512 .f32)

theorem run_C {R : _} (hR : kernelRun0_C c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25 arg26
      harg26 arg27 harg27 arg28 harg28 arg29 harg29 arg30 harg30 arg31 harg31 arg32 harg32 arg33 harg33 hc0 hc1 x0 x1
      x2 x3 x4 x5 x6 x7 x8 x9 x10 x11 x12 x13 x14 x15 x16 x17 xs0 xs1 xs2 xs3 xs4 xs5 xs6 xs7 xs8 = R) :
    R.1 = fourRows (fun c => close (View.ld x12 (Rect.unit ![0, 0] ![128, 128] inb_S128x128_S128x128_0_0))
        (View.ld x10 (Rect.unit ![0, 0] ![1, 512] inb_S1x512_S1x512_0_0)) (View.ld x11 (Rect.unit ![0, 0] ![1, 512] inb_S1x512_S1x512_0_0))
        (rows x7 c) (rows x6 c) (Tile.frames ⟨xs1, xs2, xs3, xs4, xs5, xs6, xs7, xs8⟩ (pair xs0) c))
    ∧ R.2.1 = gateCols (gatePart x8 x9)
    ∧ (∃ L, R.2.2.2.2.2.2.1 = fourPairs (Tile.state ⟨xs1, xs2, xs3, xs4, xs5, xs6, xs7, xs8⟩ (pair xs0) 4) ++ L)
    ∧ R.2.2.2.2.2.2.2.1 = fourDecays (fun c => opD (rows x5 c) (View.ld x13 (Rect.unit ![0, 0] ![64, 64] inb_S64x64_S64x64_0_0)))
    ∧ R.2.2.2.2.2.2.2.2.1 = fourRows (fun c => opA (rows16 x3 c) (rows x5 c) (View.ld x13 (Rect.unit ![0, 0] ![64, 64] inb_S64x64_S64x64_0_0)))
    ∧ R.2.2.2.2.2.2.2.2.2.1 = fourRows (fun c => opR (rows16 x0 c) (rows x5 c) (View.ld x13 (Rect.unit ![0, 0] ![64, 64] inb_S64x64_S64x64_0_0)))
    ∧ R.2.2.2.2.2.2.2.2.2.2.1 = fourRows (fun c => opB (rows16 x4 c) (rows x5 c) (View.ld x13 (Rect.unit ![0, 0] ![64, 64] inb_S64x64_S64x64_0_0)))
    ∧ R.2.2.2.2.2.2.2.2.2.2.2.1 = fourRows (fun c => opB (rows16 x1 c) (rows x5 c) (View.ld x13 (Rect.unit ![0, 0] ![64, 64] inb_S64x64_S64x64_0_0)))
    ∧ R.2.2.2.2.2.2.2.2.2.2.2.2.1 = fourRows (fun c => opH (rows16 x4 c) (rows x5 c) (View.ld x13 (Rect.unit ![0, 0] ![64, 64] inb_S64x64_S64x64_0_0)))
    ∧ R.2.2.2.2.2.2.2.2.2.2.2.2.2.1 = fourRows (fun c => opH (rows16 x1 c) (rows x5 c) (View.ld x13 (Rect.unit ![0, 0] ![64, 64] inb_S64x64_S64x64_0_0)))
    ∧ R.2.2.2.2.2.2.2.2.2.2.2.2.2.2 = fourRows (fun c => opV (rows16 x2 c)) := by
  subst hR
  refine ⟨?_, ?_, ?_, ?_, ?_, ?_, ?_, ?_, ?_, ?_, ?_⟩
  all_goals
    frame_open
    simp (disch := decide) only [View.readAt_eq_ld, Memref.IsWhole.read_unread, ↓ View.readCov_skip, ↓ View.readCov_cons_toLoadRect, ↓ View.readCov_fill]
    first | rfl | exact ⟨_, rfl⟩

end Cert.Proof.Rwkv
-- ==== Proof.RwkvStepC.lean ====
/-
  What a step inside a sequence leaves, from what the step before left.
-/
module

public import proofs.«01_k».proof.Proof.RwkvLeft
public import proofs.«01_k».proof.Proof.RwkvRunC

@[expose] public section

set_option maxRecDepth 16384
set_option maxHeartbeats 4000000

noncomputable section

namespace Cert.Proof.Rwkv

open Idealize.ShloMosaic Idealize.ShloMosaic.TcCoe Idealize.SL.Sem
open Cert.KernelIdeal Cert.KernelIdeal.Gen

attribute [local irreducible] kernelRun0_C

variable (m : (ℓ : Loc nD τ sig) → Buf (Elt Ideal) ℓ) (c : Dev nD) (t : Fin cfg0.N)

theorem left_C (h0 : ¬t.val % 65 = 0) (h1 : ¬(t.val % 65 = 0 ∨ t.val % 65 = 1 ∨ t.val % 65 = 33)) (htri : iblk m c 13 t = tri) (P : Left)
    (hP : outsAt0 m c (t.val - 1) (Nat.lt_of_le_of_lt (Nat.sub_le _ _) t.isLt) = P) (O : Left) (hO : outsAt0 m c t.val t.isLt = O) :
    O.1 = glued (fun k => close (iblk m c 12 t) (iblk m c 10 t) (iblk m c 11 t) (rows (iblk m c 7 t) k) (rows (iblk m c 6 t) k)
        ((held P).frames (pair (kept P)) k))
    ∧ O.2.1 = gateProduct (iblk m c 8 t) (iblk m c 9 t)
    ∧ kept O = gluedPairs ((held P).state (pair (kept P)) 4)
    ∧ held O = stored (iblk m c 0 t) (iblk m c 1 t) (iblk m c 2 t) (iblk m c 3 t) (iblk m c 4 t) (iblk m c 5 t) := by
  rw [outsAt0_C m c t h0 h1] at hO
  simp only [hP] at hO
  subst hO
  refine ⟨?_, ?_, ?_, ?_⟩
  · dsimp only
    unfold out0_C_18
    rw [View.read_writes_junk_eq_canon, (run_C (hR := rfl)).1, canon_rows', whole128, whole512, whole512]
    rfl
  · dsimp only
    unfold out0_C_19
    rw [View.read_writes_junk_eq_canon, (run_C (hR := rfl)).2.1, canon_gate]
  · unfold kept
    dsimp only
    unfold sout0_C_0
    rw [View.read_writes_junk_eq_canon, canon_pairs' (run_C (hR := rfl)).2.2.1]
    rfl
  · unfold held
    dsimp only
    unfold stored
    congr 1
    · unfold sout0_C_1
      rw [View.read_writes_junk_eq_canon, (run_C (hR := rfl)).2.2.2.1, canon_decays', whole64, htri]
    · unfold sout0_C_2
      rw [View.read_writes_junk_eq_canon, (run_C (hR := rfl)).2.2.2.2.1, canon_rows', whole64, htri]
    · unfold sout0_C_3
      rw [View.read_writes_junk_eq_canon, (run_C (hR := rfl)).2.2.2.2.2.1, canon_rows', whole64, htri]
    · unfold sout0_C_4
      rw [View.read_writes_junk_eq_canon, (run_C (hR := rfl)).2.2.2.2.2.2.1, canon_rows', whole64, htri]
    · unfold sout0_C_5
      rw [View.read_writes_junk_eq_canon, (run_C (hR := rfl)).2.2.2.2.2.2.2.1, canon_rows', whole64, htri]
    · unfold sout0_C_6
      rw [View.read_writes_junk_eq_canon, (run_C (hR := rfl)).2.2.2.2.2.2.2.2.1, canon_rows', whole64, htri]
    · unfold sout0_C_7
      rw [View.read_writes_junk_eq_canon, (run_C (hR := rfl)).2.2.2.2.2.2.2.2.2.1, canon_rows', whole64, htri]
    · unfold sout0_C_8
      rw [View.read_writes_junk_eq_canon, (run_C (hR := rfl)).2.2.2.2.2.2.2.2.2.2, canon_rows']

end Cert.Proof.Rwkv

end
-- ==== Proof.RwkvClose.lean ====
/-
  A chunk's close at a lane: the head's group norm, the bonus and the gate.
-/
module

public import proofs.«01_k».proof.Proof.RwkvStored
public import proofs.«01_k».proof.Proof.RwkvScan

@[expose] public section

set_option maxRecDepth 16384

noncomputable section

namespace Cert.Proof.Rwkv

open Idealize.ShloMosaic Idealize.ShloMosaic.TcCoe Idealize.SL.Sem
open Cert.KernelIdeal Cert.KernelIdeal.Gen

/-- Ones where two lanes of a pair are the same head's. -/
def sameHead : Vec Ideal S128x128 .bf16 := fun y => if (y 0).val / 64 = (y 1).val / 64 then 1 else 0

set_option maxHeartbeats 1000000 in
theorem headSum_0 (o : Vec Ideal S128x128 .bf16) (x : FVec Ideal S64x512 .f32) (t : Fin 64) (l : Fin 128) :
    headSum o x (ix2 t ⟨l.val, by omega⟩) = ∑ k : Fin 128, x (ix2 t ⟨k.val, by omega⟩) * o (ix2 k l) := by
  have h : l.val < 128 := l.isLt
  pointwise [headSum]

set_option maxHeartbeats 1000000 in
theorem headSum_1 (o : Vec Ideal S128x128 .bf16) (x : FVec Ideal S64x512 .f32) (t : Fin 64) (l : Fin 128) :
    headSum o x (ix2 t ⟨128 + l.val, by omega⟩) = ∑ k : Fin 128, x (ix2 t ⟨128 + k.val, by omega⟩) * o (ix2 k l) := by
  have h : l.val < 128 := l.isLt
  pointwise [headSum]

set_option maxHeartbeats 1000000 in
theorem headSum_2 (o : Vec Ideal S128x128 .bf16) (x : FVec Ideal S64x512 .f32) (t : Fin 64) (l : Fin 128) :
    headSum o x (ix2 t ⟨256 + l.val, by omega⟩) = ∑ k : Fin 128, x (ix2 t ⟨256 + k.val, by omega⟩) * o (ix2 k l) := by
  have h : l.val < 128 := l.isLt
  pointwise [headSum]
  rw [dif_neg (by omega), dif_neg (by omega), dif_pos (by omega)]
  simp only [show 256 + l.val - 128 - 128 = l.val by omega]
  refine Finset.sum_congr rfl fun k _ => ?_
  rw [dif_neg (by omega), dif_neg (by omega), dif_pos (by omega)]
  simp only [show 128 + t.val - 64 - 64 = t.val by omega]

set_option maxHeartbeats 1000000 in
theorem headSum_3 (o : Vec Ideal S128x128 .bf16) (x : FVec Ideal S64x512 .f32) (t : Fin 64) (l : Fin 128) :
    headSum o x (ix2 t ⟨384 + l.val, by omega⟩) = ∑ k : Fin 128, x (ix2 t ⟨384 + k.val, by omega⟩) * o (ix2 k l) := by
  have h : l.val < 128 := l.isLt
  pointwise [headSum]
  rw [dif_neg (by omega), dif_neg (by omega), dif_neg (by omega)]
  simp only [show 384 + l.val - 128 - 128 - 128 = l.val by omega]
  refine Finset.sum_congr rfl fun k _ => ?_
  rw [dif_neg (by omega), dif_neg (by omega), dif_neg (by omega)]
  simp only [show 192 + t.val - 64 - 64 - 64 = t.val by omega]

theorem headSum_lanes (o : Vec Ideal S128x128 .bf16) (x : FVec Ideal S64x512 .f32) (t : Fin 64) (j : Fin 4) (l : Fin 128) :
    headSum o x (ix2 t ⟨128 * j.val + l.val, by omega⟩) = ∑ k : Fin 128, x (ix2 t ⟨128 * j.val + k.val, by omega⟩) * o (ix2 k l) := by
  fin_cases j
  · simpa only [Nat.mul_zero, Nat.zero_add] using headSum_0 o x t l
  · exact headSum_1 o x t l
  · exact headSum_2 o x t l
  · exact headSum_3 o x t l

theorem sameHead_at (p p' : Fin 2) (i ν : Fin 64) : sameHead (ix2 (ln p i) (ln p' ν)) = if p = p' then 1 else 0 := by
  have h : (ln p i).val / 64 = p.val := by simp only [ln]; omega
  have h' : (ln p' ν).val / 64 = p'.val := by simp only [ln]; omega
  show (if (ln p i).val / 64 = (ln p' ν).val / 64 then (1 : EReal) else 0) = _
  rw [h, h']
  simp only [Fin.ext_iff]

/-- The head's sum. -/
theorem headSum_at (x : FVec Ideal S64x512 .f32) (t : Fin 64) (j : Fin 4) (p : Fin 2) (ν : Fin 64) :
    headSum sameHead x (ix2 t (chan j p ν)) = ∑ i : Fin 64, x (ix2 t (chan j p i)) := by
  refine (headSum_lanes sameHead x t j (ln p ν)).trans ((sum_lanes _).trans ?_)
  simp only [sameHead_at]
  fin_cases p
  · simp only [Fin.zero_eta, Fin.isValue, if_true, mul_one, one_ne_zero, if_false, mul_zero, Finset.sum_const_zero, add_zero]
    rfl
  · simp only [Fin.mk_one, Fin.isValue, zero_ne_one, if_true, mul_one, if_false, mul_zero, Finset.sum_const_zero, zero_add]
    rfl

theorem sixtyFourth : Ideal.ofBits .f32 0x3C800000#32 = ((1 / 64 : ℝ) : EReal) := by
  simp [Ideal.ofBits, Ideal.ieee, -EReal.coe_mul]; norm_num

theorem sixtyFour : Ideal.ofBits .f32 0x42800000#32 = ((64 : ℝ) : EReal) := by
  simp [Ideal.ofBits, Ideal.ieee, -EReal.coe_mul]; norm_num

theorem meanOf_eq (y : Fin 64 → EReal) : (∑ i, y i) * Ideal.ofBits .f32 0x3C800000#32 = meanOf y := by
  rw [meanOf, sixtyFour, sixtyFourth, Ideal.div_coe (by norm_num)]

theorem close_at (g b : FVec Ideal S1x512 .f32) (bonus gate y : FVec Ideal S64x512 .f32) (t : Fin 64) (j : Fin 4) (p : Fin 2) (ν : Fin 64) :
    close sameHead g b bonus gate y (ix2 t (chan j p ν)) =
      (normed (fun i => y (ix2 t (chan j p i))) ν * g (ix2 0 (chan j p ν)) + b (ix2 0 (chan j p ν)) + bonus (ix2 t (chan j p ν)))
        * gate (ix2 t (chan j p ν)) := by
  pointwise [close]
  simp only [headSum_at, meanOf_eq]
  have hm : ∀ i, mulf (subf y (mulf (headSum sameHead y) (broadcast S64x512 (Ideal.ofBits FTy.f32 0x3C800000#32))))
      (subf y (mulf (headSum sameHead y) (broadcast S64x512 (Ideal.ofBits FTy.f32 0x3C800000#32)))) (ix2 t (chan j p i))
      = (y (ix2 t (chan j p i)) - meanOf fun i => y (ix2 t (chan j p i))) * (y (ix2 t (chan j p i)) - meanOf fun i => y (ix2 t (chan j p i))) := fun i => by
    show (y (ix2 t (chan j p i)) - headSum sameHead y (ix2 t (chan j p i)) * Ideal.ofBits FTy.f32 0x3C800000#32)
      * (y (ix2 t (chan j p i)) - headSum sameHead y (ix2 t (chan j p i)) * Ideal.ofBits FTy.f32 0x3C800000#32) = _
    rw [headSum_at, meanOf_eq]
  simp only [hm]
  rfl

end Cert.Proof.Rwkv

end
-- ==== Proof.RwkvTables.lean ====
/-
  The two tables the call is given: which lanes share a head, and the triangle that sums up to a row.
-/
module

public import proofs.«01_k».proof.KernelIdeal

@[expose] public section

set_option maxRecDepth 16384

noncomputable section

namespace Cert.Proof.Rwkv

open Cert.KernelIdeal

theorem lit0_eq : ∀ a b : Fin 128, lit0 ⟨a.val * 128 + b.val, by omega⟩ = if a.val / 64 = b.val / 64 then 0x3F80#16 else 0#16 := by
  decide +kernel

theorem lit1_eq : ∀ a b : Fin 64, lit1 ⟨a.val * 64 + b.val, by omega⟩ = if b.val ≤ a.val then 0x3F80#16 else 0#16 := by
  decide +kernel

end Cert.Proof.Rwkv

end
-- ==== Proof.RwkvBlocks.lean ====
/-
  The blocks a step is given, read from the arrays.
-/
module

public import proofs.«01_k».proof.Proof.RwkvLeft
public import proofs.«01_k».proof.Proof.RwkvClose
public import proofs.«01_k».proof.Proof.RwkvTables

@[expose] public section

set_option maxRecDepth 16384

noncomputable section

namespace Cert.Proof.Rwkv

open Idealize.ShloMosaic Idealize.ShloMosaic.TcCoe Idealize.SL.Sem
open Cert.KernelIdeal Cert.KernelIdeal.Gen

theorem idx_tile : ∀ t : Fin cfg0.N, win0_0.index t = ![min t.val 63, 0] ∧ win0_1.index t = ![min t.val 63, 0]
    ∧ win0_2.index t = ![min t.val 63, 0] ∧ win0_3.index t = ![min t.val 63, 0] ∧ win0_4.index t = ![min t.val 63, 0]
    ∧ win0_5.index t = ![min t.val 63, 0] ∧ win0_14.index t = ![min t.val 63, 0] ∧ win0_15.index t = ![min t.val 63, 0]
    ∧ win0_16.index t = ![min t.val 63, 0] ∧ win0_17.index t = ![min t.val 63, 0] ∧ win0_20.index t = ![min t.val 63, 0]
    ∧ win0_21.index t = ![min t.val 63, 0] ∧ win0_22.index t = ![min t.val 63, 0] ∧ win0_23.index t = ![min t.val 63, 0] :=
  (by decide +kernel : ∀ t : Fin grid0.N, _)

theorem idx_late : ∀ t : Fin cfg0.N, win0_6.index t = ![t.val - 1, 0] ∧ win0_7.index t = ![t.val - 1, 0]
    ∧ win0_8.index t = ![t.val - 1, 0] ∧ win0_18.index t = ![t.val - 1, 0] ∧ win0_19.index t = ![t.val - 1, 0] :=
  (by decide +kernel : ∀ t : Fin grid0.N, _)

theorem idx_whole : ∀ t : Fin cfg0.N, win0_9.index t = ![0, 0] ∧ win0_10.index t = ![0, 0] ∧ win0_11.index t = ![0, 0]
    ∧ win0_12.index t = ![0, 0] ∧ win0_13.index t = ![0, 0] :=
  (by decide +kernel : ∀ t : Fin grid0.N, _)

variable (m : (ℓ : Loc nD τ sig) → Buf (Elt Ideal) ℓ) (c : Dev nD) (t : Fin cfg0.N)

/-- Row `i` of the tile a step loads. -/
def early (t : Fin cfg0.N) (i : Fin 256) : Fin 16384 := ⟨256 * min t.val 63 + i.val, by omega⟩

/-- Row `i` of the tile a step finishes. -/
def late (t : Fin cfg0.N) (i : Fin 256) : Fin 16384 := ⟨256 * (t.val - 1) + i.val, by have : t.val < 65 := t.isLt; omega⟩

theorem block0 (i : Fin 256) (n : Fin 512) : iblk m c 0 t (ix2 i n) = m ((c : Thread nD τ).loc main_arg0) (ix2 (early t i) n) := by
  blk_point [iblk, V, idx_tile t, early]

theorem block1 (i : Fin 256) (n : Fin 512) : iblk m c 1 t (ix2 i n) = m ((c : Thread nD τ).loc main_arg1) (ix2 (early t i) n) := by
  blk_point [iblk, V, idx_tile t, early]

theorem block2 (i : Fin 256) (n : Fin 512) : iblk m c 2 t (ix2 i n) = m ((c : Thread nD τ).loc main_arg2) (ix2 (early t i) n) := by
  blk_point [iblk, V, idx_tile t, early]

theorem block3 (i : Fin 256) (n : Fin 512) : iblk m c 3 t (ix2 i n) = m ((c : Thread nD τ).loc main_arg3) (ix2 (early t i) n) := by
  blk_point [iblk, V, idx_tile t, early]

theorem block4 (i : Fin 256) (n : Fin 512) : iblk m c 4 t (ix2 i n) = m ((c : Thread nD τ).loc main_arg4) (ix2 (early t i) n) := by
  blk_point [iblk, V, idx_tile t, early]

theorem block5 (i : Fin 256) (n : Fin 512) : iblk m c 5 t (ix2 i n) = m ((c : Thread nD τ).loc main_arg5) (ix2 (early t i) n) := by
  blk_point [iblk, V, idx_tile t, early]

theorem block6 (i : Fin 256) (n : Fin 512) : iblk m c 6 t (ix2 i n) = m ((c : Thread nD τ).loc main_arg6) (ix2 (late t i) n) := by
  blk_point [iblk, V, idx_late t, late]

theorem block7 (i : Fin 256) (n : Fin 512) : iblk m c 7 t (ix2 i n) = m ((c : Thread nD τ).loc main_arg7) (ix2 (late t i) n) := by
  blk_point [iblk, V, idx_late t, late]

theorem block8 (i : Fin 256) (n : Fin 1024) : iblk m c 8 t (ix2 i n) = m ((c : Thread nD τ).loc main_arg8) (ix2 (late t i) n) := by
  blk_point [iblk, V, idx_late t, late]

theorem block9 (i : Fin 1024) (n : Fin 2048) : iblk m c 9 t (ix2 i n) = m ((c : Thread nD τ).loc main_arg9) (ix2 i n) := by
  blk_point [iblk, V, idx_whole t]

theorem block10 (n : Fin 512) : iblk m c 10 t (ix2 0 n) = m ((c : Thread nD τ).loc main_arg10) (ix1 n) := by
  blk_point [iblk, V, idx_whole t]

theorem block11 (n : Fin 512) : iblk m c 11 t (ix2 0 n) = m ((c : Thread nD τ).loc main_arg11) (ix1 n) := by
  blk_point [iblk, V, idx_whole t]

theorem table12 : V m c main_cst = fun i => FloatOps.ofBits (F := Ideal) .bf16 (lit0 (S128x128.rowMajor i)) := by
  after_reads_simp
  rfl

theorem table13 : V m c main_cst_0 = fun i => FloatOps.ofBits (F := Ideal) .bf16 (lit1 (S64x64.rowMajor i)) := by
  after_reads_simp
  rfl

theorem one_bf16 : FloatOps.ofBits (F := Ideal) .bf16 0x3F80#16 = 1 := by
  pointwise []

theorem zero_bf16 : FloatOps.ofBits (F := Ideal) .bf16 0#16 = 0 := by
  pointwise []

theorem block12 : iblk m c 12 t = sameHead := by
  funext y
  idx_vars y
  have h : iblk m c 12 t (ix2 y0 y1) = V m c main_cst (ix2 y0 y1) := by
    blk_point [iblk, idx_whole t]
  rw [h, table12]
  have e : S128x128.rowMajor (ix2 y0 y1) = (⟨y0.val * 128 + y1.val, by omega⟩ : Fin 16384) := Fin.ext (by rw [Shape.rowMajor_val_two]; rfl)
  dsimp only
  rw [e, lit0_eq]
  unfold sameHead
  dsimp only
  split
  · rw [one_bf16, if_pos (by assumption)]
  · rw [zero_bf16, if_neg (by assumption)]

theorem block13 : iblk m c 13 t = tri := by
  funext y
  idx_vars y
  have h : iblk m c 13 t (ix2 y0 y1) = V m c main_cst_0 (ix2 y0 y1) := by
    blk_point [iblk, idx_whole t]
  rw [h, table13]
  have e : S64x64.rowMajor (ix2 y0 y1) = (⟨y0.val * 64 + y1.val, by omega⟩ : Fin 4096) := Fin.ext (by rw [Shape.rowMajor_val_two]; rfl)
  dsimp only
  rw [e, lit1_eq]
  unfold tri
  dsimp only
  split
  · rw [one_bf16, if_pos (by assumption)]
  · rw [zero_bf16, if_neg (by assumption)]

end Cert.Proof.Rwkv

end
-- ==== Proof.RwkvGrid.lean ====
/-
  The recurrence along the grid: step `n + 1` finishes tile `n`, from the state the tiles before it left.
-/
module

public import proofs.«01_k».proof.Proof.RwkvStepA
public import proofs.«01_k».proof.Proof.RwkvStepB
public import proofs.«01_k».proof.Proof.RwkvStepC
public import proofs.«01_k».proof.Proof.RwkvBlocks
public import proofs.«01_k».proof.Proof.RwkvSeqs

@[expose] public section

set_option maxRecDepth 16384

noncomputable section

namespace Cert.Proof.Rwkv

open Idealize.ShloMosaic Idealize.ShloMosaic.TcCoe Idealize.SL.Sem
open Cert.KernelIdeal Cert.KernelIdeal.Gen

/-- Head `p` of pair `j`. -/
def hd (j : Fin 4) (p : Fin 2) : Fin 8 := ⟨2 * j.val + p.val, by omega⟩

theorem chan_slot (j : Fin 4) (p : Fin 2) (κ : Fin 64) : chan j p κ = slot (hd j p) κ :=
  Fin.ext (by simp only [chan, slot, hd]; omega)

theorem pair_glued (f : Fin 4 → FVec Ideal S1x64x128 .f32) (j : Fin 4) : pair (gluedPairs f) j = f j := by
  funext y
  idx_vars y
  have h0 : (y0 : ℕ) = 0 := by omega
  have e : (Rect.unit (s := S4x64x128) ![j.val, 0, 0] ![1, 64, 128] (inb_state j)).emb (ix3 y0 y1 y2) = ix3 j y1 y2 :=
    ix3_of _ _ _ _ ((Rect.idx_unit_val _ _ _ _ 0).trans (by show j.val + y0.val = j.val; rw [h0]; rfl))
      ((Rect.idx_unit_val _ _ _ _ 1).trans (Nat.zero_add _)) ((Rect.idx_unit_val _ _ _ _ 2).trans (Nat.zero_add _))
  show gluedPairs f ((Rect.unit (s := S4x64x128) ![j.val, 0, 0] ![1, 64, 128] (inb_state j)).emb (ix3 y0 y1 y2)) = _
  rw [e]
  exact congrArg (f j) (ix3_of _ _ _ _ h0.symm rfl rfl)

theorem pair_zeroed (j : Fin 4) (q : Fin 2 → Seq) : pair zeroed j = Tile.store (lane fun p => (q p).state 0) := by
  funext y
  have hz : ∀ z, zeroed z = 0 := fun z => by unfold zeroed; pointwise []
  have hl : ∀ z, lane (fun p => (q p).state 0) z = 0 := fun z => EReal.coe_zero
  show zeroed _ = lane (fun p => (q p).state 0) _
  rw [hz, hl]

variable (m : (ℓ : Loc nD τ sig) → Buf (Elt Ideal) ℓ) (c : Dev nD)

/-- The operands a device's arguments hold. -/
def operands : Operands where
  r i n := (m ((c : Thread nD τ).loc main_arg0) : FVec Ideal S16384x512 .bf16) (ix2 i n)
  k i n := (m ((c : Thread nD τ).loc main_arg1) : FVec Ideal S16384x512 .bf16) (ix2 i n)
  v i n := (m ((c : Thread nD τ).loc main_arg2) : FVec Ideal S16384x512 .bf16) (ix2 i n)
  a i n := (m ((c : Thread nD τ).loc main_arg3) : FVec Ideal S16384x512 .bf16) (ix2 i n)
  b i n := (m ((c : Thread nD τ).loc main_arg4) : FVec Ideal S16384x512 .bf16) (ix2 i n)
  w i n := (m ((c : Thread nD τ).loc main_arg5) : FVec Ideal S16384x512 .f32) (ix2 i n)

/-- A tile's batch. -/
def tb (n : ℕ) (h : n < 64) : Fin 2 := ⟨n / 32, by omega⟩

theorem early_at (n : ℕ) (h : n < 64) (t : Fin cfg0.N) (ht : t.val = n) (i : Fin 256) :
    early t i = at_ (tb n h) (256 * (n % 32) + i.val) :=
  Fin.ext (by simp only [early, at_, place, tb]; omega)

/-- The blocks step `n` loads hold tile `n`. -/
theorem loads (hx : (operands m c).Real) (n : ℕ) (h : n < 64) (t : Fin cfg0.N) (ht : t.val = n) :
    Loads (fun j p => (operands m c).seq (tb n h) (hd j p)) (256 * (n % 32))
      (iblk m c 0 t) (iblk m c 1 t) (iblk m c 2 t) (iblk m c 3 t) (iblk m c 4 t) (iblk m c 5 t) := by
  constructor <;> intro i j p κ
  · rw [block0, early_at n h t ht, chan_slot]; exact toReal_eq (hx.r _ _)
  · rw [block1, early_at n h t ht, chan_slot]; exact toReal_eq (hx.k _ _)
  · rw [block2, early_at n h t ht, chan_slot]; exact toReal_eq (hx.v _ _)
  · rw [block3, early_at n h t ht, chan_slot]; exact toReal_eq (hx.a _ _)
  · rw [block4, early_at n h t ht, chan_slot]; exact toReal_eq (hx.b _ _)
  · rw [block5, early_at n h t ht, chan_slot]; exact toReal_eq (hx.w _ _)

/-- A step stores the operands of the tile it loads. -/
theorem held_eq (t : Fin cfg0.N) : held (outsAt0 m c t.val t.isLt)
    = stored (iblk m c 0 t) (iblk m c 1 t) (iblk m c 2 t) (iblk m c 3 t) (iblk m c 4 t) (iblk m c 5 t) := by
  by_cases h0 : t.val % 65 = 0
  · exact left_A m c t h0 (Or.inl h0) (block13 m c t) _ rfl
  · by_cases h1 : t.val % 65 = 0 ∨ t.val % 65 = 1 ∨ t.val % 65 = 33
    · exact (left_B m c t h0 h1 (block13 m c t) _ rfl _ rfl).2.2.2
    · exact (left_C m c t h0 h1 (block13 m c t) _ rfl _ rfl).2.2.2

/-- What step `n + 1` leaves: tile `n`'s frames from the state before it, its gate columns, and the state after it. -/
structure Done (n : ℕ) (h : n < 64) (t s : Fin cfg0.N) : Prop where
  out : ∃ st : Fin 4 → FVec Ideal S1x64x128 .f32,
    (∀ j, st j = Tile.store (lane fun p => ((operands m c).seq (tb n h) (hd j p)).state (256 * (n % 32))))
    ∧ (outsAt0 m c t.val t.isLt).1 = glued (fun k => close sameHead (iblk m c 10 t) (iblk m c 11 t) (rows (iblk m c 7 t) k) (rows (iblk m c 6 t) k)
      ((stored (iblk m c 0 s) (iblk m c 1 s) (iblk m c 2 s) (iblk m c 3 s) (iblk m c 4 s) (iblk m c 5 s)).frames st k))
  gate : (outsAt0 m c t.val t.isLt).2.1 = gateProduct (iblk m c 8 t) (iblk m c 9 t)
  state : kept (outsAt0 m c t.val t.isLt)
    = gluedPairs fun j => Tile.store (lane fun p => ((operands m c).seq (tb n h) (hd j p)).state (256 * (n % 32) + 256))

theorem done (hx : (operands m c).Real) : ∀ (n : ℕ) (h : n < 64) (t s : Fin cfg0.N) (_ : t.val = n + 1) (_ : s.val = n), Done m c n h t s
  | n, h, t, s, ht, hs => by
    have hP : outsAt0 m c (t.val - 1) (Nat.lt_of_le_of_lt (Nat.sub_le _ _) t.isLt) = outsAt0 m c s.val s.isLt := by
      have e : t.val - 1 = s.val := by omega
      simp only [e]
    have hL := loads m c hx n h s hs
    have hh := held_eq m c s
    have h0 : ¬t.val % 65 = 0 := by omega
    by_cases h1 : t.val % 65 = 0 ∨ t.val % 65 = 1 ∨ t.val % 65 = 33
    · obtain ⟨o, g, k, -⟩ := left_B m c t h0 h1 (block13 m c t) _ hP _ rfl
      have hn : 256 * (n % 32) = 0 := by omega
      have hst : ∀ j, pair zeroed j = Tile.store (lane fun p => ((operands m c).seq (tb n h) (hd j p)).state (256 * (n % 32))) := fun j => by
        rw [hn]; exact pair_zeroed j _
      rw [hh] at o k
      rw [block12] at o
      refine ⟨⟨_, hst, o⟩, g, k.trans (congrArg gluedPairs (funext fun j => ?_))⟩
      exact hL.state _ hst 4 (le_refl 4) j
    · obtain ⟨o, g, k, -⟩ := left_C m c t h0 h1 (block13 m c t) _ hP _ rfl
      have hd' : Done m c (n - 1) (by omega) s ⟨n - 1, by have := s.isLt; omega⟩ := done hx (n - 1) (by omega) s _ (by omega) rfl
      have hb : tb (n - 1) (by omega) = tb n h := Fin.ext (by simp only [tb]; omega)
      have hn : 256 * ((n - 1) % 32) + 256 = 256 * (n % 32) := by omega
      have hst : ∀ j, pair (kept (outsAt0 m c s.val s.isLt)) j
          = Tile.store (lane fun p => ((operands m c).seq (tb n h) (hd j p)).state (256 * (n % 32))) := fun j => by
        rw [hd'.state, pair_glued, hn, hb]
      rw [hh] at o k
      rw [block12] at o
      refine ⟨⟨_, hst, o⟩, g, k.trans (congrArg gluedPairs (funext fun j => ?_))⟩
      exact hL.state _ hst 4 (le_refl 4) j
  termination_by n => n

end Cert.Proof.Rwkv

end
-- ==== Proof.RwkvCastA.lean ====
/-
  The first step rounds its tiles of the later weights.
-/
module

public import proofs.«01_k».proof.Proof.RwkvLeft

@[expose] public section

set_option maxRecDepth 16384
set_option maxHeartbeats 4000000

noncomputable section

namespace Cert.Proof.Rwkv

open Idealize.ShloMosaic Idealize.ShloMosaic.TcCoe Idealize.SL.Sem
open Cert.KernelIdeal Cert.KernelIdeal.Gen

section run

variable {F : FTy → Type} [FloatOps F]

variable (c : Dev nD) (i : grid0.Coords) (arg1 : Memref sig .tc .vmem S256x512 .bf16) (harg1 : arg1.IsWhole)
  (arg2 : Memref sig .tc .vmem S256x512 .bf16) (harg2 : arg2.IsWhole) (arg3 : Memref sig .tc .vmem S256x512 .bf16)
  (harg3 : arg3.IsWhole) (arg4 : Memref sig .tc .vmem S256x512 .bf16) (harg4 : arg4.IsWhole)
  (arg5 : Memref sig .tc .vmem S256x512 .bf16) (harg5 : arg5.IsWhole) (arg6 : Memref sig .tc .vmem S256x512 .f32)
  (harg6 : arg6.IsWhole) (arg7 : Memref sig .tc .vmem S256x512 .f32) (harg7 : arg7.IsWhole)
  (arg8 : Memref sig .tc .vmem S256x512 .f32) (harg8 : arg8.IsWhole) (arg9 : Memref sig .tc .vmem S256x1024 .bf16)
  (harg9 : arg9.IsWhole) (arg10 : Memref sig .tc .vmem S1024x2048 .bf16) (harg10 : arg10.IsWhole)
  (arg11 : Memref sig .tc .vmem S1x512 .f32) (harg11 : arg11.IsWhole) (arg12 : Memref sig .tc .vmem S1x512 .f32)
  (harg12 : arg12.IsWhole) (arg13 : Memref sig .tc .vmem S128x128 .bf16) (harg13 : arg13.IsWhole)
  (arg14 : Memref sig .tc .vmem S64x64 .bf16) (harg14 : arg14.IsWhole) (arg15 : Memref sig .tc .vmem S16x1024 .f32)
  (harg15 : arg15.IsWhole) (arg16 : Memref sig .tc .vmem S16x1024 .f32) (harg16 : arg16.IsWhole)
  (arg17 : Memref sig .tc .vmem S16x4096 .f32) (harg17 : arg17.IsWhole) (arg18 : Memref sig .tc .vmem S64x1024 .f32)
  (harg18 : arg18.IsWhole) (arg19 : Memref sig .tc .vmem S256x512 .f32) (harg19 : arg19.IsWhole)
  (arg20 : Memref sig .tc .vmem S256x2048 .bf16) (harg20 : arg20.IsWhole) (arg21 : Memref sig .tc .vmem S16x1024 .bf16)
  (harg21 : arg21.IsWhole) (arg22 : Memref sig .tc .vmem S16x1024 .bf16) (harg22 : arg22.IsWhole)
  (arg23 : Memref sig .tc .vmem S16x4096 .bf16) (harg23 : arg23.IsWhole) (arg24 : Memref sig .tc .vmem S64x1024 .bf16)
  (harg24 : arg24.IsWhole) (arg25 : Memref sig .tc .vmem S4x64x128 .f32) (harg25 : arg25.IsWhole)
  (arg26 : Memref sig .tc .vmem S4x1x512 .f32) (harg26 : arg26.IsWhole) (arg27 : Memref sig .tc .vmem S256x512 .f32)
  (harg27 : arg27.IsWhole) (arg28 : Memref sig .tc .vmem S256x512 .f32) (harg28 : arg28.IsWhole)
  (arg29 : Memref sig .tc .vmem S256x512 .f32) (harg29 : arg29.IsWhole) (arg30 : Memref sig .tc .vmem S256x512 .f32)
  (harg30 : arg30.IsWhole) (arg31 : Memref sig .tc .vmem S256x512 .f32) (harg31 : arg31.IsWhole)
  (arg32 : Memref sig .tc .vmem S256x512 .f32) (harg32 : arg32.IsWhole) (arg33 : Memref sig .tc .vmem S256x512 .f32)
  (harg33 : arg33.IsWhole) (hc0 : cond0_0 i) (hc1 : cond0_1 i) (x0 : Vec F S256x512 .bf16) (x1 : Vec F S256x512 .bf16)
  (x2 : Vec F S256x512 .bf16) (x3 : Vec F S256x512 .bf16) (x4 : Vec F S256x512 .bf16) (x5 : Vec F S256x512 .f32)
  (x6 : Vec F S256x512 .f32) (x7 : Vec F S256x512 .f32) (x8 : Vec F S256x1024 .bf16) (x9 : Vec F S1024x2048 .bf16)
  (x10 : Vec F S1x512 .f32) (x11 : Vec F S1x512 .f32) (x12 : Vec F S128x128 .bf16) (x13 : Vec F S64x64 .bf16)
  (x14 : Vec F S16x1024 .f32) (x15 : Vec F S16x1024 .f32) (x16 : Vec F S16x4096 .f32) (x17 : Vec F S64x1024 .f32)

theorem runCast_A {R : _} (hR : kernelRun0_A c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25 arg26
      harg26 arg27 harg27 arg28 harg28 arg29 harg29 arg30 harg30 arg31 harg31 arg32 harg32 arg33 harg33 hc0 hc1 x0 x1
      x2 x3 x4 x5 x6 x7 x8 x9 x10 x11 x12 x13 x14 x15 x16 x17 = R) :
    R.2.2.1 = [⟨Rect.unit ![0, 0] S16x1024.size inb_S16x1024_S16x1024_0_0, k0_pay9 (View.ld x14 (Rect.unit ![0, 0] S16x1024.size inb_S16x1024_S16x1024_0_0))⟩]
    ∧ R.2.2.2.1 = [⟨Rect.unit ![0, 0] S16x1024.size inb_S16x1024_S16x1024_0_0, k0_pay10 (View.ld x15 (Rect.unit ![0, 0] S16x1024.size inb_S16x1024_S16x1024_0_0))⟩]
    ∧ R.2.2.2.2.1 = [⟨Rect.unit ![0, 0] S16x4096.size inb_S16x4096_S16x4096_0_0, k0_pay11 (View.ld x16 (Rect.unit ![0, 0] S16x4096.size inb_S16x4096_S16x4096_0_0))⟩]
    ∧ R.2.2.2.2.2.1 = [⟨Rect.unit ![0, 0] S64x1024.size inb_S64x1024_S64x1024_0_0, k0_pay12 (View.ld x17 (Rect.unit ![0, 0] S64x1024.size inb_S64x1024_S64x1024_0_0))⟩] := by
  subst hR
  refine ⟨?_, ?_, ?_, ?_⟩
  all_goals
    frame_open
    simp (disch := decide) only [View.readAt_eq_ld, Memref.IsWhole.read_unread]

end run

attribute [local irreducible] kernelRun0_A

variable (m : (ℓ : Loc nD τ sig) → Buf (Elt Ideal) ℓ) (c : Dev nD) (t : Fin cfg0.N)

/-- Each cast is the identity on the ideal values. -/
theorem cast_A (h0 : t.val % 65 = 0) (h1 : t.val % 65 = 0 ∨ t.val % 65 = 1 ∨ t.val % 65 = 33) :
    (outsAt0 m c t.val t.isLt).2.2.1 = iblk m c 14 t ∧ (outsAt0 m c t.val t.isLt).2.2.2.1 = iblk m c 15 t
    ∧ (outsAt0 m c t.val t.isLt).2.2.2.2.1 = iblk m c 16 t ∧ (outsAt0 m c t.val t.isLt).2.2.2.2.2.1 = iblk m c 17 t := by
  rw [outsAt0_A m c t h0 h1]
  dsimp only
  refine ⟨?_, ?_, ?_, ?_⟩
  · unfold out0_A_20
    rw [View.read_writes_junk_eq_canon, (runCast_A (hR := rfl)).1, View.canon_unit_zero (S := S16x1024) (off := ![0, 0]) (by decide)]
    rw [View.ld_unit_zero (S := S16x1024) (off := ![0, 0]) (by decide)]
    rfl
  · unfold out0_A_21
    rw [View.read_writes_junk_eq_canon, (runCast_A (hR := rfl)).2.1, View.canon_unit_zero (S := S16x1024) (off := ![0, 0]) (by decide)]
    rw [View.ld_unit_zero (S := S16x1024) (off := ![0, 0]) (by decide)]
    rfl
  · unfold out0_A_22
    rw [View.read_writes_junk_eq_canon, (runCast_A (hR := rfl)).2.2.1, View.canon_unit_zero (S := S16x4096) (off := ![0, 0]) (by decide)]
    rw [View.ld_unit_zero (S := S16x4096) (off := ![0, 0]) (by decide)]
    rfl
  · unfold out0_A_23
    rw [View.read_writes_junk_eq_canon, (runCast_A (hR := rfl)).2.2.2, View.canon_unit_zero (S := S64x1024) (off := ![0, 0]) (by decide)]
    rw [View.ld_unit_zero (S := S64x1024) (off := ![0, 0]) (by decide)]
    rfl

end Cert.Proof.Rwkv

end
-- ==== Proof.RwkvCastB.lean ====
/-
  A sequence's first step rounds its tiles of the later weights.
-/
module

public import proofs.«01_k».proof.Proof.RwkvLeft

@[expose] public section

set_option maxRecDepth 16384
set_option maxHeartbeats 4000000

noncomputable section

namespace Cert.Proof.Rwkv

open Idealize.ShloMosaic Idealize.ShloMosaic.TcCoe Idealize.SL.Sem
open Cert.KernelIdeal Cert.KernelIdeal.Gen

section run

variable {F : FTy → Type} [FloatOps F]

variable (c : Dev nD) (i : grid0.Coords) (arg1 : Memref sig .tc .vmem S256x512 .bf16) (harg1 : arg1.IsWhole)
  (arg2 : Memref sig .tc .vmem S256x512 .bf16) (harg2 : arg2.IsWhole) (arg3 : Memref sig .tc .vmem S256x512 .bf16)
  (harg3 : arg3.IsWhole) (arg4 : Memref sig .tc .vmem S256x512 .bf16) (harg4 : arg4.IsWhole)
  (arg5 : Memref sig .tc .vmem S256x512 .bf16) (harg5 : arg5.IsWhole) (arg6 : Memref sig .tc .vmem S256x512 .f32)
  (harg6 : arg6.IsWhole) (arg7 : Memref sig .tc .vmem S256x512 .f32) (harg7 : arg7.IsWhole)
  (arg8 : Memref sig .tc .vmem S256x512 .f32) (harg8 : arg8.IsWhole) (arg9 : Memref sig .tc .vmem S256x1024 .bf16)
  (harg9 : arg9.IsWhole) (arg10 : Memref sig .tc .vmem S1024x2048 .bf16) (harg10 : arg10.IsWhole)
  (arg11 : Memref sig .tc .vmem S1x512 .f32) (harg11 : arg11.IsWhole) (arg12 : Memref sig .tc .vmem S1x512 .f32)
  (harg12 : arg12.IsWhole) (arg13 : Memref sig .tc .vmem S128x128 .bf16) (harg13 : arg13.IsWhole)
  (arg14 : Memref sig .tc .vmem S64x64 .bf16) (harg14 : arg14.IsWhole) (arg15 : Memref sig .tc .vmem S16x1024 .f32)
  (harg15 : arg15.IsWhole) (arg16 : Memref sig .tc .vmem S16x1024 .f32) (harg16 : arg16.IsWhole)
  (arg17 : Memref sig .tc .vmem S16x4096 .f32) (harg17 : arg17.IsWhole) (arg18 : Memref sig .tc .vmem S64x1024 .f32)
  (harg18 : arg18.IsWhole) (arg19 : Memref sig .tc .vmem S256x512 .f32) (harg19 : arg19.IsWhole)
  (arg20 : Memref sig .tc .vmem S256x2048 .bf16) (harg20 : arg20.IsWhole) (arg21 : Memref sig .tc .vmem S16x1024 .bf16)
  (harg21 : arg21.IsWhole) (arg22 : Memref sig .tc .vmem S16x1024 .bf16) (harg22 : arg22.IsWhole)
  (arg23 : Memref sig .tc .vmem S16x4096 .bf16) (harg23 : arg23.IsWhole) (arg24 : Memref sig .tc .vmem S64x1024 .bf16)
  (harg24 : arg24.IsWhole) (arg25 : Memref sig .tc .vmem S4x64x128 .f32) (harg25 : arg25.IsWhole)
  (arg26 : Memref sig .tc .vmem S4x1x512 .f32) (harg26 : arg26.IsWhole) (arg27 : Memref sig .tc .vmem S256x512 .f32)
  (harg27 : arg27.IsWhole) (arg28 : Memref sig .tc .vmem S256x512 .f32) (harg28 : arg28.IsWhole)
  (arg29 : Memref sig .tc .vmem S256x512 .f32) (harg29 : arg29.IsWhole) (arg30 : Memref sig .tc .vmem S256x512 .f32)
  (harg30 : arg30.IsWhole) (arg31 : Memref sig .tc .vmem S256x512 .f32) (harg31 : arg31.IsWhole)
  (arg32 : Memref sig .tc .vmem S256x512 .f32) (harg32 : arg32.IsWhole) (arg33 : Memref sig .tc .vmem S256x512 .f32)
  (harg33 : arg33.IsWhole) (hc0 : ¬cond0_0 i) (hc1 : cond0_1 i) (x0 : Vec F S256x512 .bf16) (x1 : Vec F S256x512 .bf16)
  (x2 : Vec F S256x512 .bf16) (x3 : Vec F S256x512 .bf16) (x4 : Vec F S256x512 .bf16) (x5 : Vec F S256x512 .f32)
  (x6 : Vec F S256x512 .f32) (x7 : Vec F S256x512 .f32) (x8 : Vec F S256x1024 .bf16) (x9 : Vec F S1024x2048 .bf16)
  (x10 : Vec F S1x512 .f32) (x11 : Vec F S1x512 .f32) (x12 : Vec F S128x128 .bf16) (x13 : Vec F S64x64 .bf16)
  (x14 : Vec F S16x1024 .f32) (x15 : Vec F S16x1024 .f32) (x16 : Vec F S16x4096 .f32) (x17 : Vec F S64x1024 .f32)
  (xs1 : Vec F S4x1x512 .f32) (xs2 : Vec F S256x512 .f32) (xs3 : Vec F S256x512 .f32) (xs4 : Vec F S256x512 .f32)
  (xs5 : Vec F S256x512 .f32) (xs6 : Vec F S256x512 .f32) (xs7 : Vec F S256x512 .f32) (xs8 : Vec F S256x512 .f32)

theorem runCast_B {R : _} (hR : kernelRun0_B c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25 arg26
      harg26 arg27 harg27 arg28 harg28 arg29 harg29 arg30 harg30 arg31 harg31 arg32 harg32 arg33 harg33 hc0 hc1 x0 x1
      x2 x3 x4 x5 x6 x7 x8 x9 x10 x11 x12 x13 x14 x15 x16 x17 xs1 xs2 xs3 xs4 xs5 xs6 xs7 xs8 = R) :
    R.2.2.1 = [⟨Rect.unit ![0, 0] S16x1024.size inb_S16x1024_S16x1024_0_0, k0_pay9 (View.ld x14 (Rect.unit ![0, 0] S16x1024.size inb_S16x1024_S16x1024_0_0))⟩]
    ∧ R.2.2.2.1 = [⟨Rect.unit ![0, 0] S16x1024.size inb_S16x1024_S16x1024_0_0, k0_pay10 (View.ld x15 (Rect.unit ![0, 0] S16x1024.size inb_S16x1024_S16x1024_0_0))⟩]
    ∧ R.2.2.2.2.1 = [⟨Rect.unit ![0, 0] S16x4096.size inb_S16x4096_S16x4096_0_0, k0_pay11 (View.ld x16 (Rect.unit ![0, 0] S16x4096.size inb_S16x4096_S16x4096_0_0))⟩]
    ∧ R.2.2.2.2.2.1 = [⟨Rect.unit ![0, 0] S64x1024.size inb_S64x1024_S64x1024_0_0, k0_pay12 (View.ld x17 (Rect.unit ![0, 0] S64x1024.size inb_S64x1024_S64x1024_0_0))⟩] := by
  subst hR
  refine ⟨?_, ?_, ?_, ?_⟩
  all_goals
    frame_open
    simp (disch := decide) only [View.readAt_eq_ld, Memref.IsWhole.read_unread]

end run

attribute [local irreducible] kernelRun0_B

variable (m : (ℓ : Loc nD τ sig) → Buf (Elt Ideal) ℓ) (c : Dev nD) (t : Fin cfg0.N)

/-- Each cast is the identity on the ideal values. -/
theorem cast_B (h0 : ¬t.val % 65 = 0) (h1 : t.val % 65 = 0 ∨ t.val % 65 = 1 ∨ t.val % 65 = 33) :
    (outsAt0 m c t.val t.isLt).2.2.1 = iblk m c 14 t ∧ (outsAt0 m c t.val t.isLt).2.2.2.1 = iblk m c 15 t
    ∧ (outsAt0 m c t.val t.isLt).2.2.2.2.1 = iblk m c 16 t ∧ (outsAt0 m c t.val t.isLt).2.2.2.2.2.1 = iblk m c 17 t := by
  rw [outsAt0_B m c t h0 h1]
  dsimp only
  refine ⟨?_, ?_, ?_, ?_⟩
  · unfold out0_B_20
    rw [View.read_writes_junk_eq_canon, (runCast_B (hR := rfl)).1, View.canon_unit_zero (S := S16x1024) (off := ![0, 0]) (by decide)]
    rw [View.ld_unit_zero (S := S16x1024) (off := ![0, 0]) (by decide)]
    rfl
  · unfold out0_B_21
    rw [View.read_writes_junk_eq_canon, (runCast_B (hR := rfl)).2.1, View.canon_unit_zero (S := S16x1024) (off := ![0, 0]) (by decide)]
    rw [View.ld_unit_zero (S := S16x1024) (off := ![0, 0]) (by decide)]
    rfl
  · unfold out0_B_22
    rw [View.read_writes_junk_eq_canon, (runCast_B (hR := rfl)).2.2.1, View.canon_unit_zero (S := S16x4096) (off := ![0, 0]) (by decide)]
    rw [View.ld_unit_zero (S := S16x4096) (off := ![0, 0]) (by decide)]
    rfl
  · unfold out0_B_23
    rw [View.read_writes_junk_eq_canon, (runCast_B (hR := rfl)).2.2.2, View.canon_unit_zero (S := S64x1024) (off := ![0, 0]) (by decide)]
    rw [View.ld_unit_zero (S := S64x1024) (off := ![0, 0]) (by decide)]
    rfl

end Cert.Proof.Rwkv

end
-- ==== Proof.RwkvCastC.lean ====
/-
  A step inside a sequence rounds its tiles of the later weights.
-/
module

public import proofs.«01_k».proof.Proof.RwkvLeft

@[expose] public section

set_option maxRecDepth 16384
set_option maxHeartbeats 4000000

noncomputable section

namespace Cert.Proof.Rwkv

open Idealize.ShloMosaic Idealize.ShloMosaic.TcCoe Idealize.SL.Sem
open Cert.KernelIdeal Cert.KernelIdeal.Gen

section run

variable {F : FTy → Type} [FloatOps F]

variable (c : Dev nD) (i : grid0.Coords) (arg1 : Memref sig .tc .vmem S256x512 .bf16) (harg1 : arg1.IsWhole)
  (arg2 : Memref sig .tc .vmem S256x512 .bf16) (harg2 : arg2.IsWhole) (arg3 : Memref sig .tc .vmem S256x512 .bf16)
  (harg3 : arg3.IsWhole) (arg4 : Memref sig .tc .vmem S256x512 .bf16) (harg4 : arg4.IsWhole)
  (arg5 : Memref sig .tc .vmem S256x512 .bf16) (harg5 : arg5.IsWhole) (arg6 : Memref sig .tc .vmem S256x512 .f32)
  (harg6 : arg6.IsWhole) (arg7 : Memref sig .tc .vmem S256x512 .f32) (harg7 : arg7.IsWhole)
  (arg8 : Memref sig .tc .vmem S256x512 .f32) (harg8 : arg8.IsWhole) (arg9 : Memref sig .tc .vmem S256x1024 .bf16)
  (harg9 : arg9.IsWhole) (arg10 : Memref sig .tc .vmem S1024x2048 .bf16) (harg10 : arg10.IsWhole)
  (arg11 : Memref sig .tc .vmem S1x512 .f32) (harg11 : arg11.IsWhole) (arg12 : Memref sig .tc .vmem S1x512 .f32)
  (harg12 : arg12.IsWhole) (arg13 : Memref sig .tc .vmem S128x128 .bf16) (harg13 : arg13.IsWhole)
  (arg14 : Memref sig .tc .vmem S64x64 .bf16) (harg14 : arg14.IsWhole) (arg15 : Memref sig .tc .vmem S16x1024 .f32)
  (harg15 : arg15.IsWhole) (arg16 : Memref sig .tc .vmem S16x1024 .f32) (harg16 : arg16.IsWhole)
  (arg17 : Memref sig .tc .vmem S16x4096 .f32) (harg17 : arg17.IsWhole) (arg18 : Memref sig .tc .vmem S64x1024 .f32)
  (harg18 : arg18.IsWhole) (arg19 : Memref sig .tc .vmem S256x512 .f32) (harg19 : arg19.IsWhole)
  (arg20 : Memref sig .tc .vmem S256x2048 .bf16) (harg20 : arg20.IsWhole) (arg21 : Memref sig .tc .vmem S16x1024 .bf16)
  (harg21 : arg21.IsWhole) (arg22 : Memref sig .tc .vmem S16x1024 .bf16) (harg22 : arg22.IsWhole)
  (arg23 : Memref sig .tc .vmem S16x4096 .bf16) (harg23 : arg23.IsWhole) (arg24 : Memref sig .tc .vmem S64x1024 .bf16)
  (harg24 : arg24.IsWhole) (arg25 : Memref sig .tc .vmem S4x64x128 .f32) (harg25 : arg25.IsWhole)
  (arg26 : Memref sig .tc .vmem S4x1x512 .f32) (harg26 : arg26.IsWhole) (arg27 : Memref sig .tc .vmem S256x512 .f32)
  (harg27 : arg27.IsWhole) (arg28 : Memref sig .tc .vmem S256x512 .f32) (harg28 : arg28.IsWhole)
  (arg29 : Memref sig .tc .vmem S256x512 .f32) (harg29 : arg29.IsWhole) (arg30 : Memref sig .tc .vmem S256x512 .f32)
  (harg30 : arg30.IsWhole) (arg31 : Memref sig .tc .vmem S256x512 .f32) (harg31 : arg31.IsWhole)
  (arg32 : Memref sig .tc .vmem S256x512 .f32) (harg32 : arg32.IsWhole) (arg33 : Memref sig .tc .vmem S256x512 .f32)
  (harg33 : arg33.IsWhole) (hc0 : ¬cond0_0 i) (hc1 : ¬cond0_1 i) (x0 : Vec F S256x512 .bf16) (x1 : Vec F S256x512 .bf16)
  (x2 : Vec F S256x512 .bf16) (x3 : Vec F S256x512 .bf16) (x4 : Vec F S256x512 .bf16) (x5 : Vec F S256x512 .f32)
  (x6 : Vec F S256x512 .f32) (x7 : Vec F S256x512 .f32) (x8 : Vec F S256x1024 .bf16) (x9 : Vec F S1024x2048 .bf16)
  (x10 : Vec F S1x512 .f32) (x11 : Vec F S1x512 .f32) (x12 : Vec F S128x128 .bf16) (x13 : Vec F S64x64 .bf16)
  (x14 : Vec F S16x1024 .f32) (x15 : Vec F S16x1024 .f32) (x16 : Vec F S16x4096 .f32) (x17 : Vec F S64x1024 .f32)
  (xs0 : Vec F S4x64x128 .f32) (xs1 : Vec F S4x1x512 .f32) (xs2 : Vec F S256x512 .f32) (xs3 : Vec F S256x512 .f32)
  (xs4 : Vec F S256x512 .f32) (xs5 : Vec F S256x512 .f32) (xs6 : Vec F S256x512 .f32) (xs7 : Vec F S256x512 .f32)
  (xs8 : Vec F S256x512 .f32)

theorem runCast_C {R : _} (hR : kernelRun0_C c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17
      arg18 harg18 arg19 harg19 arg20 harg20 arg21 harg21 arg22 harg22 arg23 harg23 arg24 harg24 arg25 harg25 arg26
      harg26 arg27 harg27 arg28 harg28 arg29 harg29 arg30 harg30 arg31 harg31 arg32 harg32 arg33 harg33 hc0 hc1 x0 x1
      x2 x3 x4 x5 x6 x7 x8 x9 x10 x11 x12 x13 x14 x15 x16 x17 xs0 xs1 xs2 xs3 xs4 xs5 xs6 xs7 xs8 = R) :
    R.2.2.1 = [⟨Rect.unit ![0, 0] S16x1024.size inb_S16x1024_S16x1024_0_0, k0_pay9 (View.ld x14 (Rect.unit ![0, 0] S16x1024.size inb_S16x1024_S16x1024_0_0))⟩]
    ∧ R.2.2.2.1 = [⟨Rect.unit ![0, 0] S16x1024.size inb_S16x1024_S16x1024_0_0, k0_pay10 (View.ld x15 (Rect.unit ![0, 0] S16x1024.size inb_S16x1024_S16x1024_0_0))⟩]
    ∧ R.2.2.2.2.1 = [⟨Rect.unit ![0, 0] S16x4096.size inb_S16x4096_S16x4096_0_0, k0_pay11 (View.ld x16 (Rect.unit ![0, 0] S16x4096.size inb_S16x4096_S16x4096_0_0))⟩]
    ∧ R.2.2.2.2.2.1 = [⟨Rect.unit ![0, 0] S64x1024.size inb_S64x1024_S64x1024_0_0, k0_pay12 (View.ld x17 (Rect.unit ![0, 0] S64x1024.size inb_S64x1024_S64x1024_0_0))⟩] := by
  subst hR
  refine ⟨?_, ?_, ?_, ?_⟩
  all_goals
    frame_open
    simp (disch := decide) only [View.readAt_eq_ld, Memref.IsWhole.read_unread]

end run

attribute [local irreducible] kernelRun0_C

variable (m : (ℓ : Loc nD τ sig) → Buf (Elt Ideal) ℓ) (c : Dev nD) (t : Fin cfg0.N)

/-- Each cast is the identity on the ideal values. -/
theorem cast_C (h0 : ¬t.val % 65 = 0) (h1 : ¬(t.val % 65 = 0 ∨ t.val % 65 = 1 ∨ t.val % 65 = 33)) :
    (outsAt0 m c t.val t.isLt).2.2.1 = iblk m c 14 t ∧ (outsAt0 m c t.val t.isLt).2.2.2.1 = iblk m c 15 t
    ∧ (outsAt0 m c t.val t.isLt).2.2.2.2.1 = iblk m c 16 t ∧ (outsAt0 m c t.val t.isLt).2.2.2.2.2.1 = iblk m c 17 t := by
  rw [outsAt0_C m c t h0 h1]
  dsimp only
  refine ⟨?_, ?_, ?_, ?_⟩
  · unfold out0_C_20
    rw [View.read_writes_junk_eq_canon, (runCast_C (hR := rfl)).1, View.canon_unit_zero (S := S16x1024) (off := ![0, 0]) (by decide)]
    rw [View.ld_unit_zero (S := S16x1024) (off := ![0, 0]) (by decide)]
    rfl
  · unfold out0_C_21
    rw [View.read_writes_junk_eq_canon, (runCast_C (hR := rfl)).2.1, View.canon_unit_zero (S := S16x1024) (off := ![0, 0]) (by decide)]
    rw [View.ld_unit_zero (S := S16x1024) (off := ![0, 0]) (by decide)]
    rfl
  · unfold out0_C_22
    rw [View.read_writes_junk_eq_canon, (runCast_C (hR := rfl)).2.2.1, View.canon_unit_zero (S := S16x4096) (off := ![0, 0]) (by decide)]
    rw [View.ld_unit_zero (S := S16x4096) (off := ![0, 0]) (by decide)]
    rfl
  · unfold out0_C_23
    rw [View.read_writes_junk_eq_canon, (runCast_C (hR := rfl)).2.2.2, View.canon_unit_zero (S := S64x1024) (off := ![0, 0]) (by decide)]
    rw [View.ld_unit_zero (S := S64x1024) (off := ![0, 0]) (by decide)]
    rfl

end Cert.Proof.Rwkv

end
-- ==== Proof.RwkvArrays.lean ====
/-
  The arrays the call leaves, block by block.
-/
module

public import proofs.«01_k».proof.Proof.RwkvGrid
public import proofs.«01_k».proof.Proof.RwkvCastA
public import proofs.«01_k».proof.Proof.RwkvCastB
public import proofs.«01_k».proof.Proof.RwkvCastC
public import proofs.«01_k».proof.Proof.Gen.KernelIdeal.Value

@[expose] public section

set_option maxRecDepth 16384

noncomputable section

namespace Cert.Proof.Rwkv

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The branch's output. -/
def branchOut : S16384x512.Idx → EReal := fun j => branch (operands m c)
  (fun l => (m ((c : Thread nD τ).loc main_arg10) : FVec Ideal S512 .f32) (ix1 l)) (fun l => (m ((c : Thread nD τ).loc main_arg11) : FVec Ideal S512 .f32) (ix1 l))
  (fun i l => (m ((c : Thread nD τ).loc main_arg7) : FVec Ideal S16384x512 .f32) (ix2 i l))
  (fun i l => (m ((c : Thread nD τ).loc main_arg6) : FVec Ideal S16384x512 .f32) (ix2 i l)) (j 0) (j 1)

/-- The gate columns of the input projection. -/
def gateOut : S16384x2048.Idx → EReal := fun j => ∑ k : Fin 1024,
  (HMul.hMul : EReal → EReal → EReal) ((m ((c : Thread nD τ).loc main_arg8) : FVec Ideal S16384x1024 .bf16) (ix2 (j 0) k))
    ((m ((c : Thread nD τ).loc main_arg9) : FVec Ideal S1024x2048 .bf16) (ix2 k (j 1)))

theorem casts (t : Fin cfg0.N) :
    (outsAt0 m c t.val t.isLt).2.2.1 = iblk m c 14 t ∧ (outsAt0 m c t.val t.isLt).2.2.2.1 = iblk m c 15 t
    ∧ (outsAt0 m c t.val t.isLt).2.2.2.2.1 = iblk m c 16 t ∧ (outsAt0 m c t.val t.isLt).2.2.2.2.2.1 = iblk m c 17 t := by
  by_cases h0 : t.val % 65 = 0
  · exact cast_A m c t h0 (Or.inl h0)
  · by_cases h1 : t.val % 65 = 0 ∨ t.val % 65 = 1 ∨ t.val % 65 = 33
    · exact cast_B m c t h0 h1
    · exact cast_C m c t h0 h1

theorem arr20 : (dats m 0 c).arrAt 20 cfg0.N = m ((c : Thread nD τ).loc main_arg12) := by
  refine (dats m 0 c).arrAt_eq_of_covers 20 _ (by decide +kernel) fun t hf y => ?_
  blk_simp
  rw [after0_20, (casts m c t).1]
  idx_vars y
  blk_point [iblk, V, idx_tile t]

theorem arr21 : (dats m 0 c).arrAt 21 cfg0.N = m ((c : Thread nD τ).loc main_arg13) := by
  refine (dats m 0 c).arrAt_eq_of_covers 21 _ (by decide +kernel) fun t hf y => ?_
  blk_simp
  rw [after0_21, (casts m c t).2.1]
  idx_vars y
  blk_point [iblk, V, idx_tile t]

theorem arr22 : (dats m 0 c).arrAt 22 cfg0.N = m ((c : Thread nD τ).loc main_arg14) := by
  refine (dats m 0 c).arrAt_eq_of_covers 22 _ (by decide +kernel) fun t hf y => ?_
  blk_simp
  rw [after0_22, (casts m c t).2.2.1]
  idx_vars y
  blk_point [iblk, V, idx_tile t]

theorem arr23 : (dats m 0 c).arrAt 23 cfg0.N = m ((c : Thread nD τ).loc main_arg15) := by
  refine (dats m 0 c).arrAt_eq_of_covers 23 _ (by decide +kernel) fun t hf y => ?_
  blk_simp
  rw [after0_23, (casts m c t).2.2.2]
  idx_vars y
  blk_point [iblk, V, idx_tile t]

theorem flush_late : ∀ t : Fin cfg0.N, ((win0 18).flush t = true → 1 ≤ t.val) ∧ ((win0 19).flush t = true → 1 ≤ t.val) :=
  (by decide +kernel : ∀ t : Fin grid0.N, _)

theorem place18 (t : Fin cfg0.N) (a : Fin 256) (b : Fin 512) :
    ((View.whole main_v2_0).slice (win0_18.rect t)).emb (ix2 a b) = (ix2 (late t a) b : S16384x512.Idx) := by
  refine ix2_of _ _ _ ?_ ?_
  · refine (Pipeline.Window.rect_emb_val win0_18 t (ix2 a b) 0).trans ?_
    rw [(idx_late t).2.2.2.1]
    show (t.val - 1) * 256 + a.val = 256 * (t.val - 1) + a.val
    omega
  · refine (Pipeline.Window.rect_emb_val win0_18 t (ix2 a b) 1).trans ?_
    rw [(idx_late t).2.2.2.1]
    exact Nat.zero_add _

theorem place19 (t : Fin cfg0.N) (a : Fin 256) (b : Fin 2048) :
    ((View.whole main_v2_1).slice (win0_19.rect t)).emb (ix2 a b) = (ix2 (late t a) b : S16384x2048.Idx) := by
  refine ix2_of _ _ _ ?_ ?_
  · refine (Pipeline.Window.rect_emb_val win0_19 t (ix2 a b) 0).trans ?_
    rw [(idx_late t).2.2.2.2]
    show (t.val - 1) * 256 + a.val = 256 * (t.val - 1) + a.val
    omega
  · refine (Pipeline.Window.rect_emb_val win0_19 t (ix2 a b) 1).trans ?_
    rw [(idx_late t).2.2.2.2]
    exact Nat.zero_add _

theorem frame_of (i : Fin 256) : ∃ k u, i = frame k u :=
  ⟨⟨i.val / 64, by omega⟩, ⟨i.val % 64, by omega⟩, Fin.ext (by simp only [frame]; omega)⟩

theorem chan_of (l : Fin 512) : ∃ j p ν, l = chan j p ν :=
  ⟨⟨l.val / 128, by omega⟩, ⟨l.val / 64 % 2, by omega⟩, ⟨l.val % 64, by omega⟩, Fin.ext (by simp only [chan]; omega)⟩

theorem headOf_chan (j : Fin 4) (p : Fin 2) (ν : Fin 64) : headOf (chan j p ν) = hd j p :=
  Fin.ext (by simp only [headOf, chan, hd]; omega)

theorem laneOf_chan (j : Fin 4) (p : Fin 2) (ν : Fin 64) : laneOf (chan j p ν) = ν :=
  Fin.ext (by simp only [laneOf, chan]; omega)

theorem arr19 (hx : (operands m c).Real) : (dats m 0 c).arrAt 19 cfg0.N = gateOut m c := by
  refine (dats m 0 c).arrAt_eq_of_covers 19 _ (by decide +kernel) fun t hf y => ?_
  have h1 : 1 ≤ t.val := (flush_late t).2 hf
  have h2 : t.val < 65 := t.isLt
  have hd := done m c hx (t.val - 1) (by omega) t ⟨t.val - 1, by show t.val - 1 < 65; omega⟩ (by omega) rfl
  blk_simp
  rw [after0_19, hd.gate]
  idx_vars y
  refine Eq.trans ?_ (congrArg (gateOut m c) (place19 t y0 y1)).symm
  show (∑ k : Fin 1024, (HMul.hMul : EReal → EReal → EReal) (iblk m c 8 t (ix2 y0 k)) (iblk m c 9 t (ix2 k y1)) : EReal) = _
  simp only [block8, block9]
  rfl

/-- A finished frame's lane. -/
theorem branch_block (hx : (operands m c).Real) (t s : Fin cfg0.N) (h1 : 1 ≤ t.val) (hs : s.val = t.val - 1) (st : Fin 4 → FVec Ideal S1x64x128 .f32)
    (n : ℕ) (hn : n < 64) (ht : t.val = n + 1)
    (hst : ∀ j, st j = Tile.store (lane fun p => ((operands m c).seq (tb n hn) (hd j p)).state (256 * (n % 32))))
    (k : Fin 4) (u : Fin 64) (j : Fin 4) (p : Fin 2) (ν : Fin 64) :
    close sameHead (iblk m c 10 t) (iblk m c 11 t) (rows (iblk m c 7 t) k) (rows (iblk m c 6 t) k)
      ((stored (iblk m c 0 s) (iblk m c 1 s) (iblk m c 2 s) (iblk m c 3 s) (iblk m c 4 s) (iblk m c 5 s)).frames st k) (ix2 u (chan j p ν))
    = branchOut m c (ix2 (late t (frame k u)) (chan j p ν)) := by
  have hL := loads m c hx n hn s (by omega)
  have hb : batchOf (late t (frame k u)) = tb n hn := Fin.ext (by simp only [batchOf, late, frame, tb]; omega)
  have hr : (late t (frame k u)).val % 8192 = 256 * (n % 32) + 64 * k.val + u.val := by simp only [late, frame]; omega
  rw [close_at, rows_at, rows_at, block6, block7, block10, block11]
  simp only [hL.frames st hst k j u]
  show _ = branch _ _ _ _ _ (late t (frame k u)) (chan j p ν)
  unfold branch
  rw [hb, headOf_chan, laneOf_chan, hr]

theorem arr18 (hx : (operands m c).Real) : (dats m 0 c).arrAt 18 cfg0.N = branchOut m c := by
  refine (dats m 0 c).arrAt_eq_of_covers 18 _ (by decide +kernel) fun t hf y => ?_
  have h1 : 1 ≤ t.val := (flush_late t).1 hf
  have h2 : t.val < 65 := t.isLt
  have hd := done m c hx (t.val - 1) (by omega) t ⟨t.val - 1, by show t.val - 1 < 65; omega⟩ (by omega) rfl
  obtain ⟨st, hst, ho⟩ := hd.out
  blk_simp
  rw [after0_18, ho]
  idx_vars y
  refine Eq.trans ?_ (congrArg (branchOut m c) (place18 t y0 y1)).symm
  obtain ⟨k, u, rfl⟩ := frame_of y0
  obtain ⟨j, p, ν, rfl⟩ := chan_of y1
  exact (glued_at _ k u (chan j p ν) _).trans (branch_block m c hx t _ h1 rfl st (t.val - 1) (by omega) (by omega) hst k u j p ν)

end Cert.Proof.Rwkv

end
-- ==== Proof.RwkvFinite.lean ====
/-
  The precondition: every operand of the recurrence is a real number.
-/
module

public import proofs.«01_k».proof.Defs
public import proofs.«01_k».proof.Proof.RwkvGrid
public import Idealize.ShloMosaic.Lib.Pointwise
public import Idealize.ShloMosaic.Lib.Pipeline.ValueKit

@[expose] public section

noncomputable section

namespace Cert.Proof.Rwkv

open Idealize.ShloMosaic

instance finite_facts : Cert.Pre_finite.Facts where
  bitsLt_bf16_f32 := by decide
  bcast_S_S16384x512 := by decide
  reducesTo_S16384x512_S_d0_1 := by decide
  h_S_ := by decide

open Cert.Pre_finite Cert.Pre_finite.Facts

theorem and_one {x y : BitVec 1} (h : IntOp.andi x y = 1#1) : x = 1#1 ∧ y = 1#1 := by
  revert x y; decide

theorem fold_one {ι : Type} (s : Finset ι) (f : ι → BitVec 1) (x : BitVec 1) (h : s.fold IntOp.andi x f = 1#1) : ∀ i ∈ s, f i = 1#1 := by
  classical
  induction s using Finset.induction_on with
  | empty => intro i hi; exact absurd hi (Finset.notMem_empty _)
  | insert a s ha ih =>
    rw [Finset.fold_insert ha] at h
    intro i hi
    rcases Finset.mem_insert.mp hi with rfl | hi
    · exact (and_one h).1
    · exact ih (and_one h).2 i hi

theorem infinity : Ideal.ofBits .f32 0x7F800000#32 = ⊤ := by
  simp [Ideal.ofBits, Ideal.ieee]

theorem real_of {x : EReal} (h : Ideal.cmp .olt (max x (-x)) (Ideal.ofBits .f32 0x7F800000#32) = 1#1) : x ≠ ⊤ ∧ x ≠ ⊥ := by
  rw [infinity] at h
  have h' : max x (-x) < ⊤ := by
    by_contra hc
    simp [Ideal.cmp, hc] at h
  constructor
  · rintro rfl; simp at h'
  · rintro rfl; simp at h'

/-- An array whose entries all have a magnitude below infinity. -/
theorem all_real (x : FVec Ideal S16384x512 .f32)
    (h : Host.reduce IntOp.andi (cmpf .olt (Host.absf x) (broadcastInDim S16384x512 ![] bcast_S_S16384x512 (constant S_ .f32 0x7F800000#32)))
      (constantI S_ 1 1#1) reducesTo_S16384x512_S_d0_1 h_S_ ix0 = 1#1) (i : Fin 16384) (n : Fin 512) : x (ix2 i n) ≠ ⊤ ∧ x (ix2 i n) ≠ ⊥ := by
  rw [Host.reduce_eq_fold] at h
  refine real_of (fold_one _ _ _ h (ix2 i n) (Finset.mem_filter.mpr ⟨Finset.mem_univ _, ?_⟩))
  funext a
  exact a.elim0

variable (m : (ℓ : Loc Cert.KernelIdeal.nD Cert.KernelIdeal.τ Cert.KernelIdeal.sig) → Buf (Elt Ideal) ℓ)

theorem operands_real (h : Cert.Pre_KernelIdeal_finite m) (c : Dev Cert.KernelIdeal.nD) : (operands m c).Real := by
  have h := congrFun (h c) ix0
  unfold fn fn_part1 at h
  obtain ⟨h, hw⟩ := and_one h
  obtain ⟨h, hb⟩ := and_one h
  obtain ⟨h, ha⟩ := and_one h
  obtain ⟨h, hv⟩ := and_one h
  obtain ⟨hr, hk⟩ := and_one h
  exact ⟨all_real _ hr, all_real _ hk, all_real _ hv, all_real _ ha, all_real _ hb, all_real _ hw⟩

end Cert.Proof.Rwkv

end
-- ==== Proof.RwkvRef.lean ====
/-
  The recurrence's reference: its run, from the scan's state after its last frame.
-/
module

public import proofs.«01_k».proof.Defs
public import proofs.«01_k».proof.Proof.Gen.ReferenceIdeal.Run
public import Idealize.ShloMosaic.Lib.Quiescent

@[expose] public section

noncomputable section

namespace Cert.Proof.Rwkv

open Idealize.ShloMosaic Idealize.ShloMosaic.TcCoe Idealize.SL.Sem
open Cert.ReferenceIdeal

/-- The reference's frame. -/
theorem ref_quiescent : Cert.quiescent_ReferenceIdeal (hReferenceIdeal := Cert.ReferenceIdeal.Gen.facts) := fun m ρ _ =>
  (θ_run Cert.ReferenceIdeal.defs _ _).mono
    (fun r h => ⟨fun c => (h c).2.2.2.2.2.2, Idealize.ShloMosaic.sem_eq_zero_of_no_sems (by decide) r.2⟩)
    (Value.run m ρ)

end Cert.Proof.Rwkv

end
-- ==== Proof.RwkvEqual.lean ====
/-
  The recurrence's call and its reference leave equal arrays.
-/
module

public import proofs.«01_k».proof.Proof.RwkvOuts
public import proofs.«01_k».proof.Proof.RwkvArrays
public import proofs.«01_k».proof.Proof.RwkvFinite
public import proofs.«01_k».proof.Proof.RwkvRef

@[expose] public section

set_option maxRecDepth 16384

noncomputable section

namespace Cert.Proof.Rwkv

open Idealize.ShloMosaic Idealize.ShloMosaic.TcCoe Idealize.SL.Sem

theorem ref_quiescent_finite :
    Cert.quiescent_ReferenceIdeal_pre_finite (hReferenceIdeal := Cert.ReferenceIdeal.Gen.facts) (hPre_finite := finite_facts) := fun m ρ _ =>
  ref_quiescent m ρ trivial

theorem algebraic : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre hargs
  have hx := fun c => operands_real m hpre c
  refine ⟨fun c => branchOut m c, fun c => gateOut m c, fun c => m ((c.tc : Thread Cert.KernelIdeal.nD Cert.KernelIdeal.τ).loc Cert.KernelIdeal.main_arg12),
    fun c => m ((c.tc : Thread Cert.KernelIdeal.nD Cert.KernelIdeal.τ).loc Cert.KernelIdeal.main_arg13), fun c => m ((c.tc : Thread Cert.KernelIdeal.nD Cert.KernelIdeal.τ).loc Cert.KernelIdeal.main_arg14),
    fun c => m ((c.tc : Thread Cert.KernelIdeal.nD Cert.KernelIdeal.τ).loc Cert.KernelIdeal.main_arg15), ?_, ?_⟩
  · exact (θ_run Cert.KernelIdeal.defs _ _).mono (fun r h c => ⟨(h c).1.trans (arr18 m c (hx c)), (h c).2.1.trans (arr19 m c (hx c)),
      (h c).2.2.1.trans (arr20 m c), (h c).2.2.2.1.trans (arr21 m c), (h c).2.2.2.2.1.trans (arr22 m c), (h c).2.2.2.2.2.1.trans (arr23 m c),
      (h c).2.2.2.2.2.2⟩) (Cert.KernelIdeal.Value.run_blocks m g)
  · refine (θ_run Cert.ReferenceIdeal.defs _ _).mono (fun r h c => ?_) (Cert.ReferenceIdeal.Value.run m' g')
    obtain ⟨h0, h1, h2, h3, h4, h5, h6, h7, h8, h9, h10, h11, h12, h13, h14, h15⟩ := hargs c
    have hH : Holds m' c (operands m c) := ⟨fun i n => congrFun h0 (ix2 i n), fun i n => congrFun h1 (ix2 i n), fun i n => congrFun h2 (ix2 i n),
      fun i n => congrFun h3 (ix2 i n), fun i n => congrFun h4 (ix2 i n), fun i n => congrFun h5 (ix2 i n)⟩
    have hV := hH.after m' c _ (hx c)
    have hr := h c
    generalize (Cert.ReferenceIdeal.Value.STEP (F := Ideal))^[8192] (StableHlo.entryContents Cert.ReferenceIdeal.Value.preI m' c) = V at hV hr
    refine ⟨hr.1.trans ?_, hr.2.1.trans ?_, hr.2.2.1.trans ?_, hr.2.2.2.1.trans ?_, hr.2.2.2.2.1.trans ?_, hr.2.2.2.2.2.1.trans ?_, hr.2.2.2.2.2.2⟩
    · funext j
      rw [branch_eq V (operands m c) hV.frames j, hV.a6, hV.a7, hV.a10, hV.a11, h6, h7, h10, h11]
      rfl
    · funext j
      rw [gate_eq V j, hV.a8, hV.a9, h8, h9]
      rfl
    · exact (cast12 V).trans (hV.a12.trans h12)
    · exact (cast13 V).trans (hV.a13.trans h13)
    · exact (cast14 V).trans (hV.a14.trans h14)
    · exact (cast15 V).trans (hV.a15.trans h15)

end Cert.Proof.Rwkv

end
-- ==== Proof.lean ====
/-
  The claims assembled: each program's frame, the idealizations, and the values.
-/
module

public import proofs.«01_k».proof.Defs
public import proofs.«01_k».proof.Proof.Tail
public import proofs.«01_k».proof.Proof.RwkvEqual
public import proofs.«01_k».proof.Proof.Gen.Kernel.Frame
public import proofs.«01_k».proof.Proof.Gen.Kernel2.Frame

@[expose] public section

theorem Cert.Proof.claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Proof.Rwkv.finite_facts,
    fun m ρ _ => Cert.Kernel.Gen.frame m ρ, fun m ρ _ => Cert.KernelIdeal.Gen.frame m ρ, fun m ρ _ => Cert.KernelIdeal.Gen.frame m ρ,
    Cert.Proof.Rwkv.ref_quiescent, Cert.Proof.Rwkv.ref_quiescent_finite,
    fun m ρ _ => Cert.Kernel2.Gen.frame m ρ, fun m ρ _ => Cert.Kernel2Ideal.Gen.frame m ρ, Cert.Proof.Tail.ref_quiescent,
    trivial, Cert.Proof.Rwkv.algebraic, trivial, Cert.Proof.Tail.algebraic⟩
